-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts),
    quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0123_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0132_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0132_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0213_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0213_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0231_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0231_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0312_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0312_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0321_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_0321_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1023_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1023_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1032_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1032_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1203_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1203_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1230_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1230_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1302_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1302_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1320_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_1320_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2013_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2013_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2031_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2031_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2103_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2103_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2130_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2130_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2301_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2301_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2310_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_2310_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3012_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3012_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3021_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3021_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3102_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3102_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3120_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3120_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3201_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3201_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3210_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_is_3210_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== ReferenceIdeal.lean ====
abbrev S4x1024x1024 : Shape := ⟨3, ![4, 1024, 1024]⟩
abbrev S4 : Shape := ⟨1, ![4]⟩
abbrev S_ : Shape := ⟨0, ![]⟩
abbrev S4x1 : Shape := ⟨2, ![4, 1]⟩

abbrev nBuf : Space → Nat
  | .hbm => 15
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x1024x1024, .bf16⟩
  | .hbm, ⟨14, _⟩ => ⟨S4x1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel.lean ====
abbrev S1x1024x1024 : Shape := ⟨3, ![1, 1024, 1024]⟩
abbrev S4 : Shape := ⟨1, ![4]⟩
abbrev S256x1024 : Shape := ⟨2, ![256, 1024]⟩
abbrev S7 : Shape := ⟨1, ![7]⟩
abbrev S1 : Shape := ⟨1, ![1]⟩
abbrev S1x32x1024 : Shape := ⟨3, ![1, 32, 1024]⟩
abbrev S32x1024 : Shape := ⟨2, ![32, 1024]⟩
abbrev S_ : Shape := ⟨0, ![]⟩
abbrev S1x48x1024 : Shape := ⟨3, ![1, 48, 1024]⟩
abbrev S48x1024 : Shape := ⟨2, ![48, 1024]⟩
abbrev S1x64x1024 : Shape := ⟨3, ![1, 64, 1024]⟩
abbrev S64x1024 : Shape := ⟨2, ![64, 1024]⟩
abbrev S1x16x1024 : Shape := ⟨3, ![1, 16, 1024]⟩
abbrev S16x1024 : Shape := ⟨2, ![16, 1024]⟩

abbrev nBuf : Space → Nat
  | .hbm => 3
  | .vmem => 7
  | .smem => 1
  | _ => 0

abbrev bufTy : (tb : Table) → Fin (tcTables nBuf tb) → BufTy
  | .hbm, ⟨0, _⟩ => ⟨S1x1024x1024, .bf16⟩
  | .hbm, ⟨1, _⟩ => ⟨S4, .i32⟩
  | .hbm, ⟨2, _⟩ => ⟨S1x1024x1024, .f32⟩
  | .local _ .vmem, ⟨0, _⟩ => ⟨S1x1024x1024, .bf16⟩
  | .local _ .vmem, ⟨1, _⟩ => ⟨S1x1024x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .smem, ⟨0, _⟩ => ⟨S4, .i32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_off2 (d0 : Dev nD) : Fin 3 → Nat :=
  let c0_22 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let c256_i32 : BitVec 32 := 256#32
  let v49 : BitVec 32 := Scalar.muli v48 c256_i32
  let c0_i32_21 : BitVec 32 := 0#32
  let v50 : BitVec 32 := Scalar.addi v49 c0_i32_21
  let v51 : Index := Scalar.indexCast v50
  let c0_23 : Index := 0#32
  ![0, v51.toNat, 0]
def k0_dev1 (d0 : Dev nD) (v11 : BitVec 32) (v14 : BitVec 32) (v17 : BitVec 32) (v20 : BitVec 32) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v58 : BitVec 32 := Scalar.muli v2 c16_i32_27
  let v59 : BitVec 32 := Scalar.addi c0_i32_28 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v60 : BitVec 32 := Scalar.muli v5 c4_i32_29
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_30 : BitVec 32 := 1#32
  let v62 : BitVec 32 := Scalar.muli v22 c1_i32_30
  let v63 : BitVec 32 := Scalar.addi v61 v62
  v63.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v64 : BitVec 32 := Scalar.muli v2 c16_i32_32
  let v65 : BitVec 32 := Scalar.addi c0_i32_33 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v66 : BitVec 32 := Scalar.muli v5 c4_i32_34
  let v67 : BitVec 32 := Scalar.addi v65 v66
  let c1_i32_35 : BitVec 32 := 1#32
  let v68 : BitVec 32 := Scalar.muli v10 c1_i32_35
  let v69 : BitVec 32 := Scalar.addi v67 v68
  v69.toNat

def k0_dev3 (d0 : Dev nD) : Nat :=
  let c0_i32_38 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_37 : BitVec 32 := 16#32
  let v70 : BitVec 32 := Scalar.muli v23 c16_i32_37
  let v71 : BitVec 32 := Scalar.addi c0_i32_38 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v72 : BitVec 32 := Scalar.muli v5 c4_i32_39
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v74 : BitVec 32 := Scalar.muli v8 c1_i32_40
  let v75 : BitVec 32 := Scalar.addi v73 v74
  v75.toNat
def k0_dev4 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v76 : BitVec 32 := Scalar.muli v2 c16_i32_42
  let v77 : BitVec 32 := Scalar.addi c0_i32_43 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_44 : BitVec 32 := 4#32
  let v78 : BitVec 32 := Scalar.muli v36 c4_i32_44
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v80 : BitVec 32 := Scalar.muli v8 c1_i32_45
  let v81 : BitVec 32 := Scalar.addi v79 v80
  v81.toNat
def k0_dev5 (d0 : Dev nD) : Nat :=
  let c0_i32_48 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_47 : BitVec 32 := 16#32
  let v82 : BitVec 32 := Scalar.muli v23 c16_i32_47
  let v83 : BitVec 32 := Scalar.addi c0_i32_48 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_49 : BitVec 32 := 4#32
  let v84 : BitVec 32 := Scalar.muli v36 c4_i32_49
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v86 : BitVec 32 := Scalar.muli v8 c1_i32_50
  let v87 : BitVec 32 := Scalar.addi v85 v86
  v87.toNat
def k0_dev6 (d0 : Dev nD) (v10 : BitVec 32) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v88 : BitVec 32 := Scalar.muli v2 c16_i32_53
  let v89 : BitVec 32 := Scalar.addi c0_i32_54 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v90 : BitVec 32 := Scalar.muli v5 c4_i32_55
  let v91 : BitVec 32 := Scalar.addi v89 v90
  let c1_i32_56 : BitVec 32 := 1#32
  let v92 : BitVec 32 := Scalar.muli v10 c1_i32_56
  let v93 : BitVec 32 := Scalar.addi v91 v92
  v93.toNat
def k0_off3 (d0 : Dev nD) (c32_i32 : BitVec 32) : Fin 3 → Nat :=
  let c0_61 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let c256_i32 : BitVec 32 := 256#32
  let v49 : BitVec 32 := Scalar.muli v48 c256_i32
  let v100 : BitVec 32 := Scalar.addi v49 c32_i32
  let v101 : Index := Scalar.indexCast v100
  let c0_62 : Index := 0#32
  ![0, v101.toNat, 0]
def k0_dev7 (d0 : Dev nD) (v10 : BitVec 32) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v107 : BitVec 32 := Scalar.muli v2 c16_i32_66
  let v108 : BitVec 32 := Scalar.addi c0_i32_67 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v109 : BitVec 32 := Scalar.muli v5 c4_i32_68
  let v110 : BitVec 32 := Scalar.addi v108 v109
  let c1_i32_69 : BitVec 32 := 1#32
  let v111 : BitVec 32 := Scalar.muli v10 c1_i32_69
  let v112 : BitVec 32 := Scalar.addi v110 v111
  v112.toNat
def k0_off4 (d0 : Dev nD) : Fin 3 → Nat :=
  let c0_74 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let c256_i32 : BitVec 32 := 256#32
  let v49 : BitVec 32 := Scalar.muli v48 c256_i32
  let c80_i32 : BitVec 32 := 80#32
  let v119 : BitVec 32 := Scalar.addi v49 c80_i32
  let v120 : Index := Scalar.indexCast v119
  let c0_75 : Index := 0#32
  ![0, v120.toNat, 0]
def k0_dev8 (d0 : Dev nD) (v10 : BitVec 32) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v126 : BitVec 32 := Scalar.muli v2 c16_i32_79
  let v127 : BitVec 32 := Scalar.addi c0_i32_80 v126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_81 : BitVec 32 := 4#32
  let v128 : BitVec 32 := Scalar.muli v5 c4_i32_81
  let v129 : BitVec 32 := Scalar.addi v127 v128
  let c1_i32_82 : BitVec 32 := 1#32
  let v130 : BitVec 32 := Scalar.muli v10 c1_i32_82
  let v131 : BitVec 32 := Scalar.addi v129 v130
  v131.toNat
def k0_dev9 (d0 : Dev nD) (v10 : BitVec 32) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v145 : BitVec 32 := Scalar.muli v2 c16_i32_92
  let v146 : BitVec 32 := Scalar.addi c0_i32_93 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_94 : BitVec 32 := 4#32
  let v147 : BitVec 32 := Scalar.muli v5 c4_i32_94
  let v148 : BitVec 32 := Scalar.addi v146 v147
  let c1_i32_95 : BitVec 32 := 1#32
  let v149 : BitVec 32 := Scalar.muli v10 c1_i32_95
  let v150 : BitVec 32 := Scalar.addi v148 v149
  v150.toNat
def k0_off5 (d0 : Dev nD) (c192_i32 : BitVec 32) : Fin 3 → Nat :=
  let c0_100 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let c256_i32 : BitVec 32 := 256#32
  let v49 : BitVec 32 := Scalar.muli v48 c256_i32
  let v157 : BitVec 32 := Scalar.addi v49 c192_i32
  let v158 : Index := Scalar.indexCast v157
  let c0_101 : Index := 0#32
  ![0, v158.toNat, 0]
def k0_dev10 (d0 : Dev nD) (v10 : BitVec 32) : Nat :=
  let c0_i32_106 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_105 : BitVec 32 := 16#32
  let v164 : BitVec 32 := Scalar.muli v2 c16_i32_105
  let v165 : BitVec 32 := Scalar.addi c0_i32_106 v164
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_107 : BitVec 32 := 4#32
  let v166 : BitVec 32 := Scalar.muli v5 c4_i32_107
  let v167 : BitVec 32 := Scalar.addi v165 v166
  let c1_i32_108 : BitVec 32 := 1#32
  let v168 : BitVec 32 := Scalar.muli v10 c1_i32_108
  let v169 : BitVec 32 := Scalar.addi v167 v168
  v169.toNat
def k0_off6 (d0 : Dev nD) (c224_i32 : BitVec 32) : Fin 3 → Nat :=
  let c0_113 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let c256_i32 : BitVec 32 := 256#32
  let v49 : BitVec 32 := Scalar.muli v48 c256_i32
  let v176 : BitVec 32 := Scalar.addi v49 c224_i32
  let v177 : Index := Scalar.indexCast v176
  let c0_114 : Index := 0#32
  ![0, v177.toNat, 0]
def k0_dev11 (d0 : Dev nD) (v10 : BitVec 32) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_118 : BitVec 32 := 16#32
  let v183 : BitVec 32 := Scalar.muli v2 c16_i32_118
  let v184 : BitVec 32 := Scalar.addi c0_i32_119 v183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_120 : BitVec 32 := 4#32
  let v185 : BitVec 32 := Scalar.muli v5 c4_i32_120
  let v186 : BitVec 32 := Scalar.addi v184 v185
  let c1_i32_121 : BitVec 32 := 1#32
  let v187 : BitVec 32 := Scalar.muli v10 c1_i32_121
  let v188 : BitVec 32 := Scalar.addi v186 v187
  v188.toNat
def k0_dev12 (d0 : Dev nD) (v10 : BitVec 32) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_130 : BitVec 32 := 16#32
  let v202 : BitVec 32 := Scalar.muli v2 c16_i32_130
  let v203 : BitVec 32 := Scalar.addi c0_i32_131 v202
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_132 : BitVec 32 := 4#32
  let v204 : BitVec 32 := Scalar.muli v5 c4_i32_132
  let v205 : BitVec 32 := Scalar.addi v203 v204
  let c1_i32_133 : BitVec 32 := 1#32
  let v206 : BitVec 32 := Scalar.muli v10 c1_i32_133
  let v207 : BitVec 32 := Scalar.addi v205 v206
  v207.toNat

def k0_chk2 (d0 : Dev nD) (v10 : BitVec 32) : Prop :=
  ((k0_dev2 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev6_lt : ∀ (d0 : Dev nD) (v10 : BitVec 32) (k0_hw2 : k0_chk2 d0 v10), (k0_dev6 d0 v10) < nD := fun d0 v10 k0_hw2 => k0_hw2.2.1
theorem k0_dev7_lt : ∀ (d0 : Dev nD) (v10 : BitVec 32) (k0_hw2 : k0_chk2 d0 v10), (k0_dev7 d0 v10) < nD := fun d0 v10 k0_hw2 => k0_hw2.2.2.1
theorem k0_dev8_lt : ∀ (d0 : Dev nD) (v10 : BitVec 32) (k0_hw2 : k0_chk2 d0 v10), (k0_dev8 d0 v10) < nD := fun d0 v10 k0_hw2 => k0_hw2.2.2.2.1
theorem k0_dev9_lt : ∀ (d0 : Dev nD) (v10 : BitVec 32) (k0_hw2 : k0_chk2 d0 v10), (k0_dev9 d0 v10) < nD := fun d0 v10 k0_hw2 => k0_hw2.2.2.2.2.1
theorem k0_dev10_lt : ∀ (d0 : Dev nD) (v10 : BitVec 32) (k0_hw2 : k0_chk2 d0 v10), (k0_dev10 d0 v10) < nD := fun d0 v10 k0_hw2 => k0_hw2.2.2.2.2.2.1
theorem k0_dev11_lt : ∀ (d0 : Dev nD) (v10 : BitVec 32) (k0_hw2 : k0_chk2 d0 v10), (k0_dev11 d0 v10) < nD := fun d0 v10 k0_hw2 => k0_hw2.2.2.2.2.2.2.1
theorem k0_dev12_lt : ∀ (d0 : Dev nD) (v10 : BitVec 32) (k0_hw2 : k0_chk2 d0 v10), (k0_dev12 d0 v10) < nD := fun d0 v10 k0_hw2 => k0_hw2.2.2.2.2.2.2.2

def k0_dev13 (d0 : Dev nD) : Nat :=
  let c0_i32_151 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_150 : BitVec 32 := 16#32
  let v224 : BitVec 32 := Scalar.muli v23 c16_i32_150
  let v225 : BitVec 32 := Scalar.addi c0_i32_151 v224
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_152 : BitVec 32 := 4#32
  let v226 : BitVec 32 := Scalar.muli v5 c4_i32_152
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v228 : BitVec 32 := Scalar.muli v8 c1_i32_153
  let v229 : BitVec 32 := Scalar.addi v227 v228
  v229.toNat
def k0_dev14 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v236 : BitVec 32 := Scalar.muli v2 c16_i32_160
  let v237 : BitVec 32 := Scalar.addi c0_i32_161 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_162 : BitVec 32 := 4#32
  let v238 : BitVec 32 := Scalar.muli v36 c4_i32_162
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v240 : BitVec 32 := Scalar.muli v8 c1_i32_163
  let v241 : BitVec 32 := Scalar.addi v239 v240
  v241.toNat
def k0_dev15 (d0 : Dev nD) : Nat :=
  let c0_i32_171 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_170 : BitVec 32 := 16#32
  let v248 : BitVec 32 := Scalar.muli v23 c16_i32_170
  let v249 : BitVec 32 := Scalar.addi c0_i32_171 v248
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_172 : BitVec 32 := 4#32
  let v250 : BitVec 32 := Scalar.muli v36 c4_i32_172
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v252 : BitVec 32 := Scalar.muli v8 c1_i32_173
  let v253 : BitVec 32 := Scalar.addi v251 v252
  v253.toNat
def k0_dev16 (d0 : Dev nD) : Nat :=
  let c0_i32_196 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_195 : BitVec 32 := 16#32
  let v277 : BitVec 32 := Scalar.muli v23 c16_i32_195
  let v278 : BitVec 32 := Scalar.addi c0_i32_196 v277
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_197 : BitVec 32 := 4#32
  let v279 : BitVec 32 := Scalar.muli v5 c4_i32_197
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v281 : BitVec 32 := Scalar.muli v8 c1_i32_198
  let v282 : BitVec 32 := Scalar.addi v280 v281
  v282.toNat
def k0_dev17 (d0 : Dev nD) : Nat :=
  let c0_i32_206 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_205 : BitVec 32 := 16#32
  let v289 : BitVec 32 := Scalar.muli v2 c16_i32_205
  let v290 : BitVec 32 := Scalar.addi c0_i32_206 v289
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_207 : BitVec 32 := 4#32
  let v291 : BitVec 32 := Scalar.muli v36 c4_i32_207
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v293 : BitVec 32 := Scalar.muli v8 c1_i32_208
  let v294 : BitVec 32 := Scalar.addi v292 v293
  v294.toNat
def k0_dev18 (d0 : Dev nD) : Nat :=
  let c0_i32_216 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_215 : BitVec 32 := 16#32
  let v301 : BitVec 32 := Scalar.muli v23 c16_i32_215
  let v302 : BitVec 32 := Scalar.addi c0_i32_216 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_217 : BitVec 32 := 4#32
  let v303 : BitVec 32 := Scalar.muli v36 c4_i32_217
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v305 : BitVec 32 := Scalar.muli v8 c1_i32_218
  let v306 : BitVec 32 := Scalar.addi v304 v305
  v306.toNat
def k0_dev19 (d0 : Dev nD) : Nat :=
  let c0_i32_241 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_240 : BitVec 32 := 16#32
  let v330 : BitVec 32 := Scalar.muli v23 c16_i32_240
  let v331 : BitVec 32 := Scalar.addi c0_i32_241 v330
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_242 : BitVec 32 := 4#32
  let v332 : BitVec 32 := Scalar.muli v5 c4_i32_242
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v334 : BitVec 32 := Scalar.muli v8 c1_i32_243
  let v335 : BitVec 32 := Scalar.addi v333 v334
  v335.toNat
def k0_dev20 (d0 : Dev nD) : Nat :=
  let c0_i32_251 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_250 : BitVec 32 := 16#32
  let v342 : BitVec 32 := Scalar.muli v2 c16_i32_250
  let v343 : BitVec 32 := Scalar.addi c0_i32_251 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_252 : BitVec 32 := 4#32
  let v344 : BitVec 32 := Scalar.muli v36 c4_i32_252
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_253 : BitVec 32 := 1#32
  let v346 : BitVec 32 := Scalar.muli v8 c1_i32_253
  let v347 : BitVec 32 := Scalar.addi v345 v346
  v347.toNat
def k0_dev21 (d0 : Dev nD) : Nat :=
  let c0_i32_261 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_260 : BitVec 32 := 16#32
  let v354 : BitVec 32 := Scalar.muli v23 c16_i32_260
  let v355 : BitVec 32 := Scalar.addi c0_i32_261 v354
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_262 : BitVec 32 := 4#32
  let v356 : BitVec 32 := Scalar.muli v36 c4_i32_262
  let v357 : BitVec 32 := Scalar.addi v355 v356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_263 : BitVec 32 := 1#32
  let v358 : BitVec 32 := Scalar.muli v8 c1_i32_263
  let v359 : BitVec 32 := Scalar.addi v357 v358
  v359.toNat
def k0_dev22 (d0 : Dev nD) : Nat :=
  let c0_i32_286 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_285 : BitVec 32 := 16#32
  let v383 : BitVec 32 := Scalar.muli v23 c16_i32_285
  let v384 : BitVec 32 := Scalar.addi c0_i32_286 v383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_287 : BitVec 32 := 4#32
  let v385 : BitVec 32 := Scalar.muli v5 c4_i32_287
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v387 : BitVec 32 := Scalar.muli v8 c1_i32_288
  let v388 : BitVec 32 := Scalar.addi v386 v387
  v388.toNat
def k0_dev23 (d0 : Dev nD) : Nat :=
  let c0_i32_296 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_295 : BitVec 32 := 16#32
  let v395 : BitVec 32 := Scalar.muli v2 c16_i32_295
  let v396 : BitVec 32 := Scalar.addi c0_i32_296 v395
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_297 : BitVec 32 := 4#32
  let v397 : BitVec 32 := Scalar.muli v36 c4_i32_297
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_298 : BitVec 32 := 1#32
  let v399 : BitVec 32 := Scalar.muli v8 c1_i32_298
  let v400 : BitVec 32 := Scalar.addi v398 v399
  v400.toNat
def k0_dev24 (d0 : Dev nD) : Nat :=
  let c0_i32_306 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_305 : BitVec 32 := 16#32
  let v407 : BitVec 32 := Scalar.muli v23 c16_i32_305
  let v408 : BitVec 32 := Scalar.addi c0_i32_306 v407
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_307 : BitVec 32 := 4#32
  let v409 : BitVec 32 := Scalar.muli v36 c4_i32_307
  let v410 : BitVec 32 := Scalar.addi v408 v409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v411 : BitVec 32 := Scalar.muli v8 c1_i32_308
  let v412 : BitVec 32 := Scalar.addi v410 v411
  v412.toNat
def k0_dev25 (d0 : Dev nD) : Nat :=
  let c0_i32_331 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_330 : BitVec 32 := 16#32
  let v436 : BitVec 32 := Scalar.muli v23 c16_i32_330
  let v437 : BitVec 32 := Scalar.addi c0_i32_331 v436
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v438 : BitVec 32 := Scalar.muli v5 c4_i32_332
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v440 : BitVec 32 := Scalar.muli v8 c1_i32_333
  let v441 : BitVec 32 := Scalar.addi v439 v440
  v441.toNat
def k0_dev26 (d0 : Dev nD) : Nat :=
  let c0_i32_341 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_340 : BitVec 32 := 16#32
  let v448 : BitVec 32 := Scalar.muli v2 c16_i32_340
  let v449 : BitVec 32 := Scalar.addi c0_i32_341 v448
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_342 : BitVec 32 := 4#32
  let v450 : BitVec 32 := Scalar.muli v36 c4_i32_342
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v452 : BitVec 32 := Scalar.muli v8 c1_i32_343
  let v453 : BitVec 32 := Scalar.addi v451 v452
  v453.toNat
def k0_dev27 (d0 : Dev nD) : Nat :=
  let c0_i32_351 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_350 : BitVec 32 := 16#32
  let v460 : BitVec 32 := Scalar.muli v23 c16_i32_350
  let v461 : BitVec 32 := Scalar.addi c0_i32_351 v460
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_352 : BitVec 32 := 4#32
  let v462 : BitVec 32 := Scalar.muli v36 c4_i32_352
  let v463 : BitVec 32 := Scalar.addi v461 v462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v464 : BitVec 32 := Scalar.muli v8 c1_i32_353
  let v465 : BitVec 32 := Scalar.addi v463 v464
  v465.toNat
def k0_dev28 (d0 : Dev nD) : Nat :=
  let c0_i32_376 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_375 : BitVec 32 := 16#32
  let v489 : BitVec 32 := Scalar.muli v23 c16_i32_375
  let v490 : BitVec 32 := Scalar.addi c0_i32_376 v489
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_377 : BitVec 32 := 4#32
  let v491 : BitVec 32 := Scalar.muli v5 c4_i32_377
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v493 : BitVec 32 := Scalar.muli v8 c1_i32_378
  let v494 : BitVec 32 := Scalar.addi v492 v493
  v494.toNat
def k0_dev29 (d0 : Dev nD) : Nat :=
  let c0_i32_386 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_385 : BitVec 32 := 16#32
  let v501 : BitVec 32 := Scalar.muli v2 c16_i32_385
  let v502 : BitVec 32 := Scalar.addi c0_i32_386 v501
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_387 : BitVec 32 := 4#32
  let v503 : BitVec 32 := Scalar.muli v36 c4_i32_387
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_388 : BitVec 32 := 1#32
  let v505 : BitVec 32 := Scalar.muli v8 c1_i32_388
  let v506 : BitVec 32 := Scalar.addi v504 v505
  v506.toNat
def k0_dev30 (d0 : Dev nD) : Nat :=
  let c0_i32_396 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_395 : BitVec 32 := 16#32
  let v513 : BitVec 32 := Scalar.muli v23 c16_i32_395
  let v514 : BitVec 32 := Scalar.addi c0_i32_396 v513
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_397 : BitVec 32 := 4#32
  let v515 : BitVec 32 := Scalar.muli v36 c4_i32_397
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v517 : BitVec 32 := Scalar.muli v8 c1_i32_398
  let v518 : BitVec 32 := Scalar.addi v516 v517
  v518.toNat
def k0_dev31 (d0 : Dev nD) : Nat :=
  let c0_i32_421 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_420 : BitVec 32 := 16#32
  let v542 : BitVec 32 := Scalar.muli v23 c16_i32_420
  let v543 : BitVec 32 := Scalar.addi c0_i32_421 v542
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_422 : BitVec 32 := 4#32
  let v544 : BitVec 32 := Scalar.muli v5 c4_i32_422
  let v545 : BitVec 32 := Scalar.addi v543 v544
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v546 : BitVec 32 := Scalar.muli v8 c1_i32_423
  let v547 : BitVec 32 := Scalar.addi v545 v546
  v547.toNat
def k0_dev32 (d0 : Dev nD) : Nat :=
  let c0_i32_431 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_430 : BitVec 32 := 16#32
  let v554 : BitVec 32 := Scalar.muli v2 c16_i32_430
  let v555 : BitVec 32 := Scalar.addi c0_i32_431 v554
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_432 : BitVec 32 := 4#32
  let v556 : BitVec 32 := Scalar.muli v36 c4_i32_432
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v558 : BitVec 32 := Scalar.muli v8 c1_i32_433
  let v559 : BitVec 32 := Scalar.addi v557 v558
  v559.toNat
def k0_dev33 (d0 : Dev nD) : Nat :=
  let c0_i32_441 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_440 : BitVec 32 := 16#32
  let v566 : BitVec 32 := Scalar.muli v23 c16_i32_440
  let v567 : BitVec 32 := Scalar.addi c0_i32_441 v566
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v24 : BitVec 32 := Scalar.addi v5 c1_i32_6
  let c2_i32_13 : BitVec 32 := 2#32
  let c2_i32_7 : BitVec 32 := 2#32
  let c0_i32_8 : BitVec 32 := 0#32
  let v25 : BitVec 1 := Scalar.cmpi .eq c2_i32_7 c0_i32_8
  let c1_i32_9 : BitVec 32 := 1#32
  let v26 : BitVec 32 := Scalar.select v25 c1_i32_9 c2_i32_7
  let v27 : BitVec 32 := Scalar.remsi v5 v26
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let c0_i32_10 : BitVec 32 := 0#32
  let v28 : BitVec 1 := Scalar.cmpi .ne v27 c0_i32_10
  let v32 : BitVec 1 := Scalar.andi v31 v28
  let v33 : BitVec 32 := Scalar.addi v27 v26
  let v34 : BitVec 32 := Scalar.select v32 v33 v27
  let v35 : BitVec 32 := Scalar.muli c2_i32_13 v34
  let v36 : BitVec 32 := Scalar.subi v24 v35
  let c4_i32_442 : BitVec 32 := 4#32
  let v568 : BitVec 32 := Scalar.muli v36 c4_i32_442
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v570 : BitVec 32 := Scalar.muli v8 c1_i32_443
  let v571 : BitVec 32 := Scalar.addi v569 v570
  v571.toNat
def k0_off7 (d0 : Dev nD) (c2_i32_453 : BitVec 32) (c0_i32_467 : BitVec 32) : Fin 3 → Nat :=
  let c0_468 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let v585 : BitVec 32 := Scalar.xori v48 c2_i32_453
  let c256_i32_466 : BitVec 32 := 256#32
  let v598 : BitVec 32 := Scalar.muli v585 c256_i32_466
  let v599 : BitVec 32 := Scalar.addi v598 c0_i32_467
  let v600 : Index := Scalar.indexCast v599
  let c0_469 : Index := 0#32
  ![0, v600.toNat, 0]
def k0_off8 (d0 : Dev nD) (c2_i32_504 : BitVec 32) (c32_i32_518 : BitVec 32) : Fin 3 → Nat :=
  let c0_519 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let v642 : BitVec 32 := Scalar.xori v48 c2_i32_504
  let c256_i32_517 : BitVec 32 := 256#32
  let v655 : BitVec 32 := Scalar.muli v642 c256_i32_517
  let v656 : BitVec 32 := Scalar.addi v655 c32_i32_518
  let v657 : Index := Scalar.indexCast v656
  let c0_520 : Index := 0#32
  ![0, v657.toNat, 0]
def k0_off9 (d0 : Dev nD) (c2_i32_555 : BitVec 32) : Fin 3 → Nat :=
  let c0_570 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let v699 : BitVec 32 := Scalar.xori v48 c2_i32_555
  let c256_i32_568 : BitVec 32 := 256#32
  let v712 : BitVec 32 := Scalar.muli v699 c256_i32_568
  let c80_i32_569 : BitVec 32 := 80#32
  let v713 : BitVec 32 := Scalar.addi v712 c80_i32_569
  let v714 : Index := Scalar.indexCast v713
  let c0_571 : Index := 0#32
  ![0, v714.toNat, 0]
def k0_off10 (d0 : Dev nD) (c2_i32_708 : BitVec 32) (c224_i32_722 : BitVec 32) : Fin 3 → Nat :=
  let c0_723 : Index := 0#32
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.muli c2_i32_14 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v38 : BitVec 1 := Scalar.cmpi .eq c2_i32_15 c0_i32_16
  let c1_i32_17 : BitVec 32 := 1#32
  let v39 : BitVec 32 := Scalar.select v38 c1_i32_17 c2_i32_15
  let v40 : BitVec 32 := Scalar.remsi v5 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let v48 : BitVec 32 := Scalar.addi v37 v47
  let v870 : BitVec 32 := Scalar.xori v48 c2_i32_708
  let c256_i32_721 : BitVec 32 := 256#32
  let v883 : BitVec 32 := Scalar.muli v870 c256_i32_721
  let v884 : BitVec 32 := Scalar.addi v883 c224_i32_722
  let v885 : Index := Scalar.indexCast v884
  let c0_724 : Index := 0#32
  ![0, v885.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Exchange.Peers.lean ====
/-
The devices of the exchange and the places its body names.

The mesh is 2 x 4 x 4: device `c` stands at `x = c / 16`, `y = c / 4 % 4`, `z = c % 4`. Along `z` the devices of one row
trade by a permutation `σ` (`dst σ c` is where `c`'s block goes, `src σ c` where its new block comes from); across the
row each quarter is passed on to the three peers that hold the other quarters: the device across `x`, the one across
the pair in `y`, and the one across both.
-/
module

public import proofs.«01_k».proof.Proof.Gen.KernelIdeal

@[expose] public section

set_option maxRecDepth 4000

noncomputable section

namespace Cert.Exchange

open Idealize.ShloMosaic Cert.KernelIdeal Cert.KernelIdeal.Gen

set_option backward.proofsInPublic true in
/-- The device in `c`'s row whose last coordinate is `z`. -/
def along (c : Dev nD) (z : Fin 4) : Dev nD := ⟨c.val / 4 * 4 + z.val, by
  have h : c.val < 32 := c.isLt
  have := z.isLt
  show _ < 32
  omega⟩

set_option backward.proofsInPublic true in
/-- A device's place in its row. -/
def place (c : Dev nD) : Fin 4 := ⟨c.val % 4, Nat.mod_lt _ (by decide)⟩

/-- Where `c`'s block goes. -/
def dst (σ : Equiv.Perm (Fin 4)) (c : Dev nD) : Dev nD := along c (σ (place c))
/-- Where the block that `c` ends with comes from. -/
def src (σ : Equiv.Perm (Fin 4)) (c : Dev nD) : Dev nD := along c (σ.symm (place c))

set_option backward.proofsInPublic true in
/-- The peer across `x`. -/
def xp (c : Dev nD) : Dev nD := ⟨(c.val + 16) % 32, Nat.mod_lt _ (by decide)⟩
set_option backward.proofsInPublic true in
/-- The peer across the pair in `y`. -/
def yp (c : Dev nD) : Dev nD := ⟨c.val / 8 * 8 + (c.val + 4) % 8, by
  have h : c.val < 32 := c.isLt
  show _ < 32
  omega⟩
/-- The peer across both. -/
def dp (c : Dev nD) : Dev nD := xp (yp c)
/-- The three peers, in the order the body names them. -/
def peer (j : Fin 3) : Dev nD → Dev nD := match j with | 0 => xp | 1 => yp | 2 => dp

/-- The quarter of the rows device `c` reads of its block and passes on. -/
def quarter (c : Dev nD) : ℕ := c.val / 16 * 2 + c.val / 4 % 2

theorem place_along (c : Dev nD) (z : Fin 4) : place (along c z) = z := by revert c z; decide
theorem along_along (c : Dev nD) (y z : Fin 4) : along (along c y) z = along c z := by revert c y z; decide
theorem along_place (c : Dev nD) : along c (place c) = c := by revert c; decide
theorem src_dst (σ : Equiv.Perm (Fin 4)) (c : Dev nD) : src σ (dst σ c) = c := by
  rw [src, dst, place_along, along_along, Equiv.symm_apply_apply, along_place]
theorem dst_src (σ : Equiv.Perm (Fin 4)) (c : Dev nD) : dst σ (src σ c) = c := by
  rw [src, dst, place_along, along_along, Equiv.apply_symm_apply, along_place]
theorem peer_peer (j : Fin 3) (c : Dev nD) : peer j (peer j c) = c := by revert j c; decide
theorem quarter_lt (c : Dev nD) : quarter c < 4 := by revert c; decide
theorem quarter_along (c : Dev nD) (z : Fin 4) : quarter (along c z) = quarter c := by revert c z; decide
theorem quarter_src (σ : Equiv.Perm (Fin 4)) (c : Dev nD) : quarter (src σ c) = quarter c := quarter_along c _

/-- The permutation of the devices that `dst` is. -/
def ring (σ : Equiv.Perm (Fin 4)) : Dev nD ≃ Dev nD := ⟨dst σ, src σ, src_dst σ, dst_src σ⟩
/-- The pairing of the devices that `peer j` is. -/
def swap (j : Fin 3) : Dev nD ≃ Dev nD := ⟨peer j, peer j, peer_peer j, peer_peer j⟩

/-! ## The places the body computes -/

theorem dev_x (c : Dev nD) : k0_dev3 c = (xp c).val ∧ k0_dev13 c = (xp c).val ∧ k0_dev16 c = (xp c).val ∧ k0_dev19 c = (xp c).val
    ∧ k0_dev22 c = (xp c).val ∧ k0_dev25 c = (xp c).val ∧ k0_dev28 c = (xp c).val ∧ k0_dev31 c = (xp c).val := by
  revert c; decide +kernel
theorem dev_y (c : Dev nD) : k0_dev4 c = (yp c).val ∧ k0_dev14 c = (yp c).val ∧ k0_dev17 c = (yp c).val ∧ k0_dev20 c = (yp c).val
    ∧ k0_dev23 c = (yp c).val ∧ k0_dev26 c = (yp c).val ∧ k0_dev29 c = (yp c).val ∧ k0_dev32 c = (yp c).val := by
  revert c; decide +kernel
theorem dev_d (c : Dev nD) : k0_dev5 c = (dp c).val ∧ k0_dev15 c = (dp c).val ∧ k0_dev18 c = (dp c).val ∧ k0_dev21 c = (dp c).val
    ∧ k0_dev24 c = (dp c).val ∧ k0_dev27 c = (dp c).val ∧ k0_dev30 c = (dp c).val ∧ k0_dev33 c = (dp c).val := by
  revert c; decide +kernel

/-- Each device the body names by the word it reads of the permutation is the one at that place of the row. -/
theorem dev_z (c : Dev nD) (z : Fin 4) : k0_dev2 c (BitVec.ofNat 32 z.val) = (along c z).val ∧ k0_dev6 c (BitVec.ofNat 32 z.val) = (along c z).val
    ∧ k0_dev7 c (BitVec.ofNat 32 z.val) = (along c z).val ∧ k0_dev8 c (BitVec.ofNat 32 z.val) = (along c z).val
    ∧ k0_dev9 c (BitVec.ofNat 32 z.val) = (along c z).val ∧ k0_dev10 c (BitVec.ofNat 32 z.val) = (along c z).val
    ∧ k0_dev11 c (BitVec.ofNat 32 z.val) = (along c z).val ∧ k0_dev12 c (BitVec.ofNat 32 z.val) = (along c z).val := by
  revert c z; decide +kernel

set_option synthInstance.maxSize 1024 in
/-- The device the body finds by comparing the four words with `c`'s place: the last match counts. -/
theorem dev_match : ∀ (c : Dev nD) (a b d e : Fin 4),
    k0_dev1 c (BitVec.ofNat 32 a.val) (BitVec.ofNat 32 b.val) (BitVec.ofNat 32 d.val) (BitVec.ofNat 32 e.val)
      = (along c (if e = place c then 3 else if d = place c then 2 else if b = place c then 1 else 0)).val := by
  decide +kernel

/-- The device whose word names `c`'s place, found among the four words of the permutation. -/
theorem dev_src (σ : Equiv.Perm (Fin 4)) (c : Dev nD) :
    k0_dev1 c (BitVec.ofNat 32 (σ 0).val) (BitVec.ofNat 32 (σ 1).val) (BitVec.ofNat 32 (σ 2).val) (BitVec.ofNat 32 (σ 3).val)
      = (src σ c).val := by
  rw [dev_match, src]
  obtain ⟨z, hz⟩ := σ.surjective (place c)
  rw [← hz, Equiv.symm_apply_apply]
  simp only [σ.injective.eq_iff]
  congr 1
  congr 1
  clear hz; revert z; decide

theorem chk_z (c : Dev nD) (z : Fin 4) : k0_chk2 c (BitVec.ofNat 32 z.val) := by revert c z; decide +kernel

/-! ## The rows the body computes -/

theorem off2_row (c : Dev nD) : k0_off2 c = ![0, quarter c * 256, 0] := by revert c; decide +kernel
theorem off3_row (c : Dev nD) (r : Fin 2) : k0_off3 c (BitVec.ofNat 32 (32 + 112 * r.val)) = ![0, quarter c * 256 + (32 + 112 * r.val), 0] := by
  revert c r; decide +kernel
theorem off4_row (c : Dev nD) : k0_off4 c = ![0, quarter c * 256 + 80, 0] := by revert c; decide +kernel
theorem off5_row (c : Dev nD) (r : Fin 2) : k0_off5 c (BitVec.ofNat 32 (192 * r.val)) = ![0, quarter c * 256 + 192 * r.val, 0] := by
  revert c r; decide +kernel
theorem off6_row (c : Dev nD) (r : Fin 2) : k0_off6 c (BitVec.ofNat 32 (224 + 16 * r.val)) = ![0, quarter c * 256 + (224 + 16 * r.val), 0] := by
  revert c r; decide +kernel

/-- The order in which the body takes the peers by the bits of the quarter: `2` across `x`, `1` across `y`, `3` both. -/
def bits (j : Fin 3) : Fin 3 := match j with | 0 => 1 | 1 => 0 | 2 => 2

theorem off7_row (c : Dev nD) (j : Fin 3) (r : Fin 2) : k0_off7 c (BitVec.ofNat 32 (1 + (bits j).val)) (BitVec.ofNat 32 (192 * r.val))
    = ![0, quarter (peer j c) * 256 + 192 * r.val, 0] := by revert c j r; decide +kernel
theorem off8_row (c : Dev nD) (j : Fin 3) (r : Fin 2) : k0_off8 c (BitVec.ofNat 32 (1 + (bits j).val)) (BitVec.ofNat 32 (32 + 112 * r.val))
    = ![0, quarter (peer j c) * 256 + (32 + 112 * r.val), 0] := by revert c j r; decide +kernel
theorem off9_row (c : Dev nD) (j : Fin 3) : k0_off9 c (BitVec.ofNat 32 (1 + (bits j).val))
    = ![0, quarter (peer j c) * 256 + 80, 0] := by revert c j; decide +kernel
theorem off10_row (c : Dev nD) (j : Fin 3) (r : Fin 2) : k0_off10 c (BitVec.ofNat 32 (1 + (bits j).val)) (BitVec.ofNat 32 (224 + 16 * r.val))
    = ![0, quarter (peer j c) * 256 + (224 + 16 * r.val), 0] := by revert c j r; decide +kernel

/-- The device whose block fills row `i` of `c`'s result: in the row it comes from along `z`, the one that reads the
    quarter `i` lies in. -/
def origin (σ : Equiv.Perm (Fin 4)) (c : Dev nD) (i : ℕ) : Dev nD :=
  along ⟨((i / 512 % 2) * 16 + (c.val / 8 % 2) * 8 + (i / 256 % 2) * 4 + c.val % 4) % 32, Nat.mod_lt _ (by decide)⟩ (σ.symm (place c))

theorem origin_own (σ : Equiv.Perm (Fin 4)) (c : Dev nD) (i : ℕ) (hi : i / 256 = quarter c) : origin σ c i = src σ c := by
  have h1 : i / 512 % 2 = quarter c / 2 % 2 := by omega
  have h2 : i / 256 % 2 = quarter c % 2 := by omega
  have key : ∀ (c : Dev nD) (z : Fin 4), along ⟨(quarter c / 2 % 2 * 16 + c.val / 8 % 2 * 8 + quarter c % 2 * 4 + c.val % 4) % 32,
      Nat.mod_lt _ (by decide)⟩ z = along c z := by decide
  simp only [origin, h1, h2, src]
  exact key c _
theorem origin_peer (σ : Equiv.Perm (Fin 4)) (j : Fin 3) (c : Dev nD) (i : ℕ) : origin σ (peer j c) i = origin σ c i := by
  have h1 : place (peer j c) = place c := by revert j c; decide
  have h2 : (peer j c).val / 8 % 2 = c.val / 8 % 2 := by revert j c; decide
  have h3 : (peer j c).val % 4 = c.val % 4 := by revert j c; decide
  simp only [origin, h1, h2, h3]

end Cert.Exchange

end
-- ==== Proof.Exchange.Schedule.lean ====
/-
The cells of the exchange and what passes through them.

Every device owns its barrier cell and, for each of four kinds of copy and each of seven chunks of rows, one cell for
the copy leaving and one for the copy landing. Kind `0` carries a chunk along `z` from the send buffer; kinds `1`, `2`,
`3` pass the landed chunk on to the three peers of the row. Every cell runs one round. A barrier cell expects five
units: one from each device whose copies will come from here or go to here; four of them hand over the buffer that
device's copies are to land in. A leaving cell hands the read chunk back, a landing cell hands over the chunk with the
sender's rows in it.
-/
module

public import proofs.«01_k».proof.Proof.Exchange.Peers
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds (duties `Unit`) and the exchange's (duties `Fin 5`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The chunks and the buffers -/

/-- The first row of a chunk, within a quarter. -/
def first : Fin 7 → ℕ | 0 => 0 | 1 => 32 | 2 => 80 | 3 => 144 | 4 => 192 | 5 => 224 | 6 => 240
/-- The rows of a chunk. -/
def height : Fin 7 → ℕ | 0 => 32 | 1 => 48 | 2 => 64 | 3 => 48 | 4 => 32 | 5 => 16 | 6 => 16

theorem chunk_inb (k : Fin 7) : ∀ a, (![first k, 0] : Fin 2 → ℕ) a + (![height k, 1024] : Fin 2 → ℕ) a ≤ S256x1024.size a := by
  revert k; decide

/-- The rows of a chunk, of a buffer of a quarter. -/
abbrev chunk (k : Fin 7) : Rect S256x1024 := Rect.unit (s := S256x1024) ![first k, 0] ![height k, 1024] (chunk_inb k)

/-- Where a copy of a kind lands. -/
abbrev buf : Fin 4 → Memref sig .tc .vmem S256x1024 .bf16
  | 0 => Memref.whole cc0_scratch1 | 1 => Memref.whole cc0_scratch2 | 2 => Memref.whole cc0_scratch3 | 3 => Memref.whole cc0_scratch4
/-- What a copy of a kind reads. -/
abbrev orig : Fin 4 → Memref sig .tc .vmem S256x1024 .bf16
  | 0 => Memref.whole cc0_scratch0 | 1 => Memref.whole cc0_scratch1 | 2 => Memref.whole cc0_scratch1 | 3 => Memref.whole cc0_scratch1

/-- A chunk of a buffer, as the body slices it. -/
abbrev part (M : Memref sig .tc .vmem S256x1024 .bf16) (k : Fin 7) : Memref sig .tc .vmem (chunk k).shape .bf16 :=
  M.slice (chunk k) (fun _ => rfl)

/-- The share of the landed chunk that a copy of a kind reads it at; the send buffer's is read at its whole. -/
def lent : Fin 4 → PosShare TreeShare
  | 0 => fullShare | 1 => fullShare.left.left | 2 => fullShare.left.right | 3 => fullShare.right.left
/-- The share of the landed chunk the body keeps for its own load. -/
def kept : PosShare TreeShare := fullShare.right.right

/-! ## The cells -/

theorem sem_lt (f : Fin 4) (k : Fin 7) : 3 + 14 * f.val + k.val < 59 ∧ 10 + 14 * f.val + k.val < 59 := by omega

set_option backward.proofsInPublic true in
/-- The semaphore of a copy leaving. -/
abbrev outSem (f : Fin 4) (k : Fin 7) : DmaSem sig := (⟨3 + 14 * f.val + k.val, (sem_lt f k).1⟩ : Fin 59)
set_option backward.proofsInPublic true in
/-- The semaphore of a copy landing. -/
abbrev inSem (f : Fin 4) (k : Fin 7) : DmaSem sig := (⟨10 + 14 * f.val + k.val, (sem_lt f k).2⟩ : Fin 59)
/-- The barrier's semaphore. -/
abbrev barS : Sem sig := (SemArray.scalar (sig.barrier 0 rfl) : Sems sig S_).sem

abbrev barCell (c : Dev nD) : GSem nD τ sig := ((c : Thread nD τ), .reg barS)
abbrev outCell (c : Dev nD) (f : Fin 4) (k : Fin 7) : GSem nD τ sig := ((c : Thread nD τ), .dma (outSem f k))
abbrev inCell (c : Dev nD) (f : Fin 4) (k : Fin 7) : GSem nD τ sig := ((c : Thread nD τ), .dma (inSem f k))

/-- The kind, the chunk and the side a semaphore's number names. -/
def kindOf (q : DmaSem sig) : Fin 4 := ⟨(q.val - 3) / 14 % 4, Nat.mod_lt _ (by decide)⟩
def chunkOf (q : DmaSem sig) : Fin 7 := ⟨(q.val - 3) % 7, Nat.mod_lt _ (by decide)⟩
def lands (q : DmaSem sig) : Bool := (q.val - 3) / 7 % 2 == 1

theorem of_out (f : Fin 4) (k : Fin 7) : kindOf (outSem f k) = f ∧ chunkOf (outSem f k) = k ∧ lands (outSem f k) = false
    ∧ 3 ≤ (outSem f k).val := by revert f k; decide
theorem of_in (f : Fin 4) (k : Fin 7) : kindOf (inSem f k) = f ∧ chunkOf (inSem f k) = k ∧ lands (inSem f k) = true
    ∧ 3 ≤ (inSem f k).val := by revert f k; decide

/-- What a chunk's copy credits. -/
abbrev N (k : Fin 7) : ℕ := (part (buf 0) k).view.dmaCredit

theorem N_pos (k : Fin 7) : 0 < N k := View.dmaCredit_pos _ (by revert k; decide)
theorem N_buf (f : Fin 4) (k : Fin 7) : (part (buf f) k).view.dmaCredit = N k := by
  fin_cases f <;> fin_cases k <;> rfl
theorem N_orig (f : Fin 4) (k : Fin 7) : (part (orig f) k).view.dmaCredit = N k := by
  fin_cases f <;> fin_cases k <;> rfl

/-! ## Who copies to whom -/

/-- The devices' permutation a kind of copy follows. -/
def link (σ : Equiv.Perm (Fin 4)) : Fin 4 → (Dev nD ≃ Dev nD) | 0 => ring σ | 1 => swap 0 | 2 => swap 1 | 3 => swap 2

/-- The five devices a device signals at entry, in its order. -/
def hail (σ : Equiv.Perm (Fin 4)) : Fin 5 → (Dev nD ≃ Dev nD) | 0 => (ring σ).symm | 1 => ring σ | 2 => swap 0 | 3 => swap 1 | 4 => swap 2

/-! ## The contents -/

variable (X : Dev nD → S1x1024x1024.Idx → Elt F .bf16)

/-- The index of row `i`, column `j` of a block. -/
def at3 (i j : ℕ) : S1x1024x1024.Idx :=
  Fin.cons (⟨0, Nat.one_pos⟩ : Fin 1) (Fin.cons (⟨i % 1024, Nat.mod_lt _ (by decide)⟩ : Fin 1024)
    (Fin.cons (⟨j % 1024, Nat.mod_lt _ (by decide)⟩ : Fin 1024) fun a => a.elim0))

/-- The quarter of its block a device reads. -/
def quarterT (c : Dev nD) : S256x1024.Idx → Elt F .bf16 := fun j => X c (at3 (quarter c * 256 + (j 0).val) (j 1).val)

variable (σ : Equiv.Perm (Fin 4))

/-- What a copy of a kind, leaving `c`, carries. -/
def carried (f : Fin 4) (c : Dev nD) : S256x1024.Idx → Elt F .bf16 :=
  match f with | 0 => quarterT X c | _ => quarterT X (src σ c)
/-- What a copy of a kind, landing on `c`, has brought. -/
def brought (f : Fin 4) (c : Dev nD) : S256x1024.Idx → Elt F .bf16 := carried X σ f ((link σ f).symm c)

/-- A chunk of a buffer, holding the rows of `T`. -/
def win (c : Dev nD) (M : Memref sig .tc .vmem S256x1024 .bf16) (k : Fin 7) (q : PosShare TreeShare) (T : S256x1024.Idx → Elt F .bf16) : sProp 𝕄 :=
  iprop(∃ g : Buf (Elt F) (M.view.loc (c : Thread nD τ)), ⌜∀ i : (chunk k).shape.Idx, M.view.read (Elt F) g ((chunk k).emb i) = T ((chunk k).emb i)⌝
    ∗ ((part M k).view.loc (c : Thread nD τ) ↦[(part M k).view.set]{q} g))
/-- A chunk of a buffer, holding anything. -/
def any (c : Dev nD) (M : Memref sig .tc .vmem S256x1024 .bf16) (k : Fin 7) : sProp 𝕄 :=
  iprop(∃ g : Buf (Elt F) (M.view.loc (c : Thread nD τ)), ((part M k).view.loc (c : Thread nD τ) ↦[(part M k).view.set]{fullShare} g))

omit [FloatOps F] in
instance win_storable (c : Dev nD) (M) (k : Fin 7) (q) (T) : BI.Storable (upEmb : UEmb _ 𝕄) (win (F := F) c M k q T) := by unfold win; infer_instance
omit [FloatOps F] in
instance any_storable (c : Dev nD) (M) (k : Fin 7) : BI.Storable (upEmb : UEmb _ 𝕄) (any (F := F) c M k) := by unfold any; infer_instance

/-! ## The schedule -/

/-- The buffer a signal at entry hands over: a kind's landing buffer, or (the second signal) nothing. -/
def offered : Fin 5 → Option (Fin 4) | 0 => some 0 | 1 => none | 2 => some 1 | 3 => some 2 | 4 => some 3

/-- What the payer `p` of a barrier duty hands over. -/
def offer (p : Dev nD) (d : Fin 5) : sProp 𝕄 :=
  match offered d with
  | some f => bigSep Finset.univ fun k : Fin 7 => any p (buf f) k
  | none => iprop(emp)

/-- What a copy leaving gives back at its end. -/
def outPay (c : Dev nD) (f : Fin 4) (k : Fin 7) : sProp 𝕄 := win c (orig f) k (lent f) (carried X σ f c)
/-- What a copy landing hands over. -/
def inPay (c : Dev nD) (f : Fin 4) (k : Fin 7) : sProp 𝕄 := win c (buf f) k fullShare (brought X σ f c)

omit [FloatOps F] in
instance offer_storable (p : Dev nD) (d : Fin 5) : BI.Storable (upEmb : UEmb _ 𝕄) (offer (F := F) p d) := by
  unfold offer; split <;> infer_instance
omit [FloatOps F] in
instance outPay_storable (c : Dev nD) (f) (k) : BI.Storable (upEmb : UEmb _ 𝕄) (outPay X σ c f k) := by unfold outPay; infer_instance
omit [FloatOps F] in
instance inPay_storable (c : Dev nD) (f) (k) : BI.Storable (upEmb : UEmb _ 𝕄) (inPay X σ c f k) := by unfold inPay; infer_instance

/-- One round on every cell of a TensorCore but the staging ones. -/
def sched : Rounds.Schedule (GSem nD τ sig) (Fin 5) 𝕄 where
  duties g r := match g.2 with
    | .reg _ => if r = 0 then Finset.univ else ∅
    | .dma q => if r = 0 then {0} else ∅
  unitless _ := False
  amount g _ _ := match g.2 with
    | .reg _ => 1
    | .dma q => N (chunkOf q)
  payload g _ d := match g.2 with
    | .reg _ => offer ((hail σ d).symm g.1.1) d
    | .dma q => if lands q then inPay X σ g.1.1 (kindOf q) (chunkOf q) else outPay X σ g.1.1 (kindOf q) (chunkOf q)
  amount_pos g _ _ _ := by
    split
    · exact Nat.one_pos
    · exact N_pos _

omit [FloatOps F] in
instance sched_storable (g : GSem nD τ sig) (r : ℕ) (d : Fin 5) : BI.Storable (upEmb : UEmb _ 𝕄) ((sched X σ).payload g r d) := by
  show BI.Storable upEmb (match g.2 with
    | .reg _ => offer ((hail σ d).symm g.1.1) d
    | .dma q => if lands q then inPay X σ g.1.1 (kindOf q) (chunkOf q) else outPay X σ g.1.1 (kindOf q) (chunkOf q))
  split
  · infer_instance
  · split <;> infer_instance

section Facts
variable (c : Dev nD) (f : Fin 4) (k : Fin 7) (d : Fin 5)

omit [FloatOps F] in
theorem duties_bar : (sched X σ).duties (barCell c) 0 = Finset.univ := rfl
omit [FloatOps F] in
theorem duties_dma (q : DmaSem sig) : (sched X σ).duties ((c : Thread nD τ), .dma q) 0 = {0} := rfl
omit [FloatOps F] in
theorem duties_later (g : GSem nD τ sig) : ∀ r, 1 ≤ r → (sched X σ).duties g r = ∅ := fun r hr => by
  dsimp only [sched]
  split
  · rw [if_neg (by omega)]
  · rw [if_neg (by omega)]
omit [FloatOps F] in
theorem amount_bar : (sched X σ).amount (barCell c) 0 d = 1 := rfl
omit [FloatOps F] in
theorem amount_out : (sched X σ).amount (outCell c f k) 0 d = N k := by
  show N (chunkOf (outSem f k)) = N k
  rw [(of_out f k).2.1]
omit [FloatOps F] in
theorem amount_in : (sched X σ).amount (inCell c f k) 0 d = N k := by
  show N (chunkOf (inSem f k)) = N k
  rw [(of_in f k).2.1]
omit [FloatOps F] in
theorem expect_bar : (sched X σ).expect (barCell c) 0 = 5 := by
  unfold Schedule.expect Schedule.amountOf
  rw [duties_bar, Finset.sum_congr rfl fun d _ => amount_bar X σ c d, Finset.sum_const, Finset.card_univ, Fintype.card_fin, smul_eq_mul]
omit [FloatOps F] in
theorem expect_out : (sched X σ).expect (outCell c f k) 0 = N k := by
  unfold Schedule.expect Schedule.amountOf; rw [duties_dma, Finset.sum_singleton, amount_out]
omit [FloatOps F] in
theorem expect_in : (sched X σ).expect (inCell c f k) 0 = N k := by
  unfold Schedule.expect Schedule.amountOf; rw [duties_dma, Finset.sum_singleton, amount_in]
omit [FloatOps F] in
theorem payload_bar : (sched X σ).payload (barCell c) 0 d = offer ((hail σ d).symm c) d := rfl
omit [FloatOps F] in
theorem payload_out : (sched X σ).payload (outCell c f k) 0 d = outPay X σ c f k := by
  show (if lands (outSem f k) then inPay X σ c (kindOf (outSem f k)) (chunkOf (outSem f k)) else outPay X σ c (kindOf (outSem f k)) (chunkOf (outSem f k))) = _
  obtain ⟨h1, h2, h3, -⟩ := of_out f k
  rw [h1, h2, h3]; rfl
omit [FloatOps F] in
theorem payload_in : (sched X σ).payload (inCell c f k) 0 d = inPay X σ c f k := by
  show (if lands (inSem f k) then inPay X σ c (kindOf (inSem f k)) (chunkOf (inSem f k)) else outPay X σ c (kindOf (inSem f k)) (chunkOf (inSem f k))) = _
  obtain ⟨h1, h2, h3, -⟩ := of_in f k
  rw [h1, h2, h3]; rfl
omit [FloatOps F] in
theorem rest_bar : bigSep ((sched X σ).duties (barCell c) 0 \ ∅) (fun d => (sched X σ).payload (barCell c) 0 d)
    = bigSep Finset.univ fun d : Fin 5 => offer (F := F) ((hail σ d).symm c) d := by
  rw [Finset.sdiff_empty, duties_bar]; rfl
omit [FloatOps F] in
theorem rest_out : bigSep ((sched X σ).duties (outCell c f k) 0 \ ∅) (fun d => (sched X σ).payload (outCell c f k) 0 d) = outPay X σ c f k := by
  rw [Finset.sdiff_empty, duties_dma, bigSep_singleton, payload_out]
omit [FloatOps F] in
theorem rest_in : bigSep ((sched X σ).duties (inCell c f k) 0 \ ∅) (fun d => (sched X σ).payload (inCell c f k) 0 d) = inPay X σ c f k := by
  rw [Finset.sdiff_empty, duties_dma, bigSep_singleton, payload_in]

end Facts

/-! ## The levels -/

def L (g : GSem nD τ sig) : Finset Unit := if g.1.2 = .tc then {()} else ∅
/-- Barrier cells at 1, landing cells at 2 (along `z`) and 3 (to the peers), everything else at 0. -/
def lv (g : GSem nD τ sig) (_ : Unit) : ℕ := match g.2 with
  | .reg _ => 1
  | .dma q => if 3 ≤ q.val ∧ lands q then (if kindOf q = 0 then 2 else 3) else 0

theorem L_of_ne (g : GSem nD τ sig) (h : g.1.2 ≠ .tc) : L g = ∅ := if_neg h
theorem L_tc (c : Dev nD) (sm : SemLoc sig) : L ((c : Thread nD τ), sm) = {()} := if_pos rfl
theorem lv_in (c : Dev nD) (f : Fin 4) (k : Fin 7) : lv (inCell c f k) () = if f = 0 then 2 else 3 := by
  show (if 3 ≤ (inSem f k).val ∧ lands (inSem f k) then (if kindOf (inSem f k) = 0 then 2 else 3) else 0) = _
  obtain ⟨h1, -, h3, h4⟩ := of_in f k
  rw [h1, h3, if_pos ⟨h4, rfl⟩]
theorem lv_out (c : Dev nD) (f : Fin 4) (k : Fin 7) : lv (outCell c f k) () = 0 := by
  show (if 3 ≤ (outSem f k).val ∧ lands (outSem f k) then (if kindOf (outSem f k) = 0 then 2 else 3) else 0) = _
  obtain ⟨-, -, h3, -⟩ := of_out f k
  rw [h3]; simp

end Cert.Exchange

end
-- ==== Proof.Exchange.State.lean ====
/-
What a device holds between two operations of the body.

The body treats seven chunks, each with a phase: `0` to `1` the chunk is stored into the send buffer, to `2` its copy
along `z` starts, to `3` the copy that lands here is waited for, to `4`, `5`, `6` the three copies to the peers start, to
`7` the landed rows are stored in the result, to `8` … `13` the peers' copies are waited for and stored, to `14` … `17` the
leaving copies are waited for. The barrier has a progress of its own: `0` … `5` signals sent, `6` after its wait.
What is held for a chunk and a kind of copy depends on the phase only through the thresholds below.
-/
module

public import proofs.«01_k».proof.Proof.Exchange.Schedule

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The thresholds -/

/-- The phase from which a kind's copy reads what it will read. -/
def ready : Fin 4 → ℕ | 0 => 1 | 1 => 3 | 2 => 3 | 3 => 3
/-- The phase from which a kind's copy has started. -/
def started : Fin 4 → ℕ | 0 => 2 | 1 => 4 | 2 => 5 | 3 => 6
/-- The phase from which a kind's copy has landed here. -/
def arrived : Fin 4 → ℕ | 0 => 3 | 1 => 8 | 2 => 10 | 3 => 12
/-- The phase from which the rows a kind's copy brought are in the result. -/
def stored : Fin 4 → ℕ | 0 => 7 | 1 => 9 | 2 => 11 | 3 => 13
/-- The phase from which a kind's copy, leaving, has been waited for. -/
def ended : Fin 4 → ℕ | 0 => 14 | 1 => 15 | 2 => 16 | 3 => 17

/-- The share at which the body keeps what a kind's copy brought. -/
def hold : Fin 4 → PosShare TreeShare | 0 => kept | 1 => fullShare | 2 => fullShare | 3 => fullShare
/-- The device whose quarter a kind's copy brings: the device's own, or a peer's. -/
def owner : Fin 4 → Dev nD → Dev nD | 0 => fun c => c | 1 => xp | 2 => yp | 3 => dp

/-! ## A quantity per chunk and kind -/

/-- One conjunct per chunk and kind, each at its chunk's phase. -/
def all (Φ : ℕ → Fin 4 → Fin 7 → sProp 𝕄) (s : Fin 7 → ℕ) : sProp 𝕄 :=
  bigSep Finset.univ fun p : Fin 7 × Fin 4 => Φ (s p.1) p.2 p.1

omit [FloatOps F] in
theorem bigSep_kinds (Ψ : Fin 4 → sProp 𝕄) : bigSep Finset.univ Ψ = iprop(Ψ 0 ∗ Ψ 1 ∗ Ψ 2 ∗ Ψ 3) :=
  bigSep_univ_eq_bigSepL [0, 1, 2, 3] (by decide) (by decide) Ψ

section All
variable {s s' : Fin 7 → ℕ} {k : Fin 7}

omit [FloatOps F] in
/-- One chunk moves on and nothing depends on it. -/
theorem all_keep {Φ : ℕ → Fin 4 → Fin 7 → sProp 𝕄} (hs : ∀ j, j ≠ k → s' j = s j) (h : ∀ f, Φ (s' k) f k = Φ (s k) f k) : all Φ s' = all Φ s := by
  unfold all
  refine bigSep_congr fun p _ => ?_
  by_cases hp : p.1 = k
  · rw [hp]; exact h p.2
  · rw [hs _ hp]

omit [FloatOps F] in
/-- One chunk moves on and one kind depends on it. -/
theorem all_turn {Φ : ℕ → Fin 4 → Fin 7 → sProp 𝕄} (f : Fin 4) (hs : ∀ j, j ≠ k → s' j = s j) (h : ∀ f', f' ≠ f → Φ (s' k) f' k = Φ (s k) f' k) :
    all Φ s ⊢ iprop(Φ (s k) f k ∗ (Φ (s' k) f k -∗ all Φ s')) := by
  unfold all
  refine bigSep_univ_update (Φ := fun p : Fin 7 × Fin 4 => Φ (s p.1) p.2 p.1) (Ψ := fun p => Φ (s' p.1) p.2 p.1) (k, f) fun p hp => ?_
  by_cases hk : p.1 = k
  · rw [hk]; exact h p.2 fun hf => hp (Prod.ext hk hf)
  · rw [hs _ hk]

omit [FloatOps F] in
/-- One conjunct looked at. -/
theorem all_look {Φ : ℕ → Fin 4 → Fin 7 → sProp 𝕄} (f : Fin 4) : all Φ s ⊢ iprop(Φ (s k) f k ∗ (Φ (s k) f k -∗ all Φ s)) :=
  all_turn f (fun _ _ => rfl) fun _ _ => rfl

omit [FloatOps F] in
/-- One chunk moves on and every kind depends on it. -/
theorem all_chunk {Φ : ℕ → Fin 4 → Fin 7 → sProp 𝕄} (hs : ∀ j, j ≠ k → s' j = s j) :
    all Φ s ⊢ iprop((Φ (s k) 0 k ∗ Φ (s k) 1 k ∗ Φ (s k) 2 k ∗ Φ (s k) 3 k)
      ∗ ((Φ (s' k) 0 k ∗ Φ (s' k) 1 k ∗ Φ (s' k) 2 k ∗ Φ (s' k) 3 k) -∗ all Φ s')) := by
  unfold all
  rw [bigSep_univ_prod (fun p : Fin 7 × Fin 4 => Φ (s p.1) p.2 p.1), bigSep_univ_prod (fun p : Fin 7 × Fin 4 => Φ (s' p.1) p.2 p.1),
    ← bigSep_kinds fun f => Φ (s k) f k, ← bigSep_kinds fun f => Φ (s' k) f k]
  exact bigSep_univ_update (Φ := fun j : Fin 7 => bigSep Finset.univ fun f => Φ (s j) f j) (Ψ := fun j => bigSep Finset.univ fun f => Φ (s' j) f j) k
    fun j hj => bigSep_congr fun f _ => by rw [hs j hj]

end All

/-! ## The pieces -/

variable (X : Dev nD → S1x1024x1024.Idx → Elt F .bf16) (σ : Equiv.Perm (Fin 4)) (c : Dev nD)

/-- A leaving copy's side: the tokens to start it, then the credit to wait for it, then what it read. -/
def leaving (n : ℕ) (f : Fin 4) (k : Fin 7) : sProp 𝕄 :=
  if n < started f then iprop(dutyTok ER (outCell c f k) 0 0 ∗ dutyTok ER (inCell (link σ f c) f k) 0 0 ∗ atPos ER (outCell c f k) 0 ∅ 0)
  else if n < ended f then iprop(cred (tallyAt (outCell c f k) () (N k)) ∗ atPos ER (outCell c f k) 0 ∅ 0)
  else iprop(outPay X σ c f k ∗ semVal (outCell c f k) 0)

/-- A landing copy's side: the credit to wait for it, then what it brought. -/
def landing (n : ℕ) (f : Fin 4) (k : Fin 7) : sProp 𝕄 :=
  if n < arrived f then iprop(cred (tallyAt (inCell c f k) () (N k)) ∗ atPos ER (inCell c f k) 0 ∅ 0)
  else iprop(win c (buf f) k (hold f) (brought X σ f c) ∗ semVal (inCell c f k) 0)

/-- What a copy is about to read. -/
def lending (n : ℕ) (f : Fin 4) (k : Fin 7) : sProp 𝕄 :=
  if n < started f then
    (if n < ready f then (match f with | 0 => any c (orig 0) k | _ => iprop(emp)) else win c (orig f) k (lent f) (carried X σ f c))
  else iprop(emp)

/-- Where a copy is about to land. -/
def beyond (b n : ℕ) (f : Fin 4) (k : Fin 7) : sProp 𝕄 :=
  if b = 6 then (if n < started f then any (link σ f c) (buf f) k else iprop(emp)) else iprop(emp)

/-- The barrier's side: what the signals not yet sent hand over, and the wait. -/
def greeting (b : ℕ) : sProp 𝕄 :=
  iprop((bigSep Finset.univ fun i : Fin 5 => if b ≤ i.val then iprop(dutyTok ER (barCell (hail σ i c)) 0 i ∗ offer (F := F) c i) else iprop(emp))
    ∗ (if b = 6 then semVal (barCell c) 0 else iprop(cred (tallyAt (barCell c) () 5) ∗ atPos ER (barCell c) 0 ∅ 0)))

/-- The result's rows of a quarter's chunk. -/
def rowsOf (f : Fin 4) (k : Fin 7) (i : ℕ) : Prop := quarter (owner f c) * 256 + first k ≤ i ∧ i < quarter (owner f c) * 256 + first k + height k

/-- The result at an index. -/
def result (i : S1x1024x1024.Idx) : Elt F .f32 := FloatOps.extf .f32 (by decide) (X (origin σ c (i 1).val) i)

/-- The result so far. -/
def outcome (s : Fin 7 → ℕ) : sProp 𝕄 :=
  iprop(∃ g : (cc0_stg2_0 : Ref sig .tc).ty.Contents (Elt F), ⌜∀ f k, stored f ≤ s k → ∀ i : S1x1024x1024.Idx, rowsOf c f k (i 1).val → g i = result X σ c i⌝
    ∗ ((Memref.whole cc0_stg2_0).view.loc (c : Thread nD τ) ↦{fullShare} g))

/-- The words of a permutation. -/
def words : S4.Idx → BitVec 32 := fun i => BitVec.ofNat 32 (σ (i 0)).val

/-- The two operands. -/
def operands : sProp 𝕄 :=
  iprop((((Memref.whole cc0_stg0_0).view.loc (c : Thread nD τ)) ↦{fullShare} (X c : (cc0_stg0_0 : Ref sig .tc).ty.Contents (Elt F)))
    ∗ (((Memref.whole cc0_stg1_0).view.loc (c : Thread nD τ)) ↦{fullShare} (words σ : (cc0_stg1_0 : Ref sig .tc).ty.Contents (Elt F))))

/-! ## What a device owes -/

def owedBar (b : ℕ) : CellTallies nD τ sig Unit := ∑ i : Fin 5, if b ≤ i.val then tallyAt (barCell (hail σ i c)) () 1 else 0
def owedIn (s : Fin 7 → ℕ) : CellTallies nD τ sig Unit :=
  ∑ p : Fin 7 × Fin 4, if s p.1 < started p.2 then tallyAt (inCell (link σ p.2 c) p.2 p.1) () (N p.1) else 0
/-- The signals not yet sent, and the credit of the copies not yet started. -/
def owed (b : ℕ) (s : Fin 7 → ℕ) : CellTallies nD τ sig Unit := owedIn σ c s + owedBar σ c b

/-- Two sums that agree but at one index. -/
theorem sum_step {I A : Type} [Fintype I] [DecidableEq I] [AddCommMonoid A] (f g : I → A) (i : I) (h : ∀ j, j ≠ i → f j = g j) (hi : g i = 0) :
    (∑ j, f j) = (∑ j, g j) + f i := by
  rw [← Finset.add_sum_erase Finset.univ f (Finset.mem_univ i), ← Finset.add_sum_erase Finset.univ g (Finset.mem_univ i), hi, zero_add, add_comm]
  congr 1
  exact Finset.sum_congr rfl fun j hj => h j (Finset.ne_of_mem_erase hj)

theorem owed_signal (i : Fin 5) (s : Fin 7 → ℕ) : owed σ c i.val s = owed σ c (i.val + 1) s + tallyAt (barCell (hail σ i c)) () 1 := by
  unfold owed owedBar
  rw [add_assoc]
  congr 1
  rw [sum_step (fun j : Fin 5 => if i.val ≤ j.val then tallyAt (barCell (hail σ j c)) () 1 else 0)
    (fun j : Fin 5 => if i.val + 1 ≤ j.val then tallyAt (barCell (hail σ j c)) () 1 else 0) i ?_ ?_, if_pos (le_refl _)]
  · intro j hj
    have : j.val ≠ i.val := fun h => hj (Fin.ext h)
    by_cases h : i.val ≤ j.val
    · rw [if_pos h, if_pos (by omega)]
    · rw [if_neg h, if_neg (by omega)]
  · exact if_neg (by omega)

theorem owed_wait (s : Fin 7 → ℕ) : owed σ c 6 s = owed σ c 5 s := by
  unfold owed owedBar
  congr 1

variable {s s' : Fin 7 → ℕ} {k : Fin 7}

theorem owed_start (b : ℕ) (f : Fin 4) (hs : ∀ j, j ≠ k → s' j = s j) (hk : s' k = s k + 1) (hf : started f = s k + 1) :
    owed σ c b s = owed σ c b s' + tallyAt (inCell (link σ f c) f k) () (N k) := by
  have hinj : ∀ f', f' ≠ f → started f' ≠ started f := by clear hf; revert f; decide
  unfold owed owedIn
  rw [sum_step (fun p : Fin 7 × Fin 4 => if s p.1 < started p.2 then tallyAt (inCell (link σ p.2 c) p.2 p.1) () (N p.1) else 0)
    (fun p : Fin 7 × Fin 4 => if s' p.1 < started p.2 then tallyAt (inCell (link σ p.2 c) p.2 p.1) () (N p.1) else 0) (k, f) ?_ ?_]
  · rw [if_pos (show s k < started f by omega), add_right_comm]
  · rintro ⟨j, f'⟩ hp
    show (if s j < started f' then _ else _) = if s' j < started f' then _ else _
    by_cases hj : j = k
    · subst hj
      have h1 := hinj f' fun h => hp (by rw [h])
      by_cases h : s j < started f'
      · rw [if_pos h, if_pos (by omega)]
      · rw [if_neg h, if_neg (by omega)]
    · rw [hs j hj]
  · exact if_neg (show ¬ s' k < started f by omega)

theorem owed_keep (b : ℕ) (hs : ∀ j, j ≠ k → s' j = s j) (h : ∀ f, s' k < started f ↔ s k < started f) : owed σ c b s' = owed σ c b s := by
  unfold owed owedIn
  congr 1
  refine Finset.sum_congr rfl fun p _ => ?_
  by_cases hp : p.1 = k
  · rw [hp]; simp only [h]
  · rw [hs _ hp]

theorem owed_end (b : ℕ) (hb : 5 ≤ b) (h : ∀ j f, started f ≤ s j) : owed σ c b s = 0 := by
  unfold owed owedIn owedBar
  rw [Finset.sum_eq_zero fun p _ => if_neg (by have := h p.1 p.2; omega), Finset.sum_eq_zero fun i _ => if_neg (by omega), add_zero]

/-- What is owed is a landing cell's credit, of a copy not yet started, or a barrier's unit, of a signal not yet sent. -/
theorem owed_pos {b : ℕ} {g : GSem nD τ sig} {u : Unit} (h : 0 < owed σ c b s g u) :
    (∃ p : Fin 7 × Fin 4, g = inCell (link σ p.2 c) p.2 p.1 ∧ s p.1 < started p.2) ∨ ∃ i : Fin 5, g = barCell (hail σ i c) ∧ b ≤ i.val := by
  unfold owed owedIn owedBar at h
  rw [Pi.add_apply, Finsupp.add_apply, Finset.sum_apply, Finset.sum_apply, Finsupp.finset_sum_apply, Finsupp.finset_sum_apply] at h
  by_contra hn
  rw [not_or] at hn
  refine absurd h (Nat.not_lt.mpr (Nat.le_of_eq ?_))
  refine Eq.trans (congrArg₂ (· + ·) (Finset.sum_eq_zero fun p _ => ?_) (Finset.sum_eq_zero fun i _ => ?_)) (Nat.zero_add 0)
  rotate_left
  · by_cases hi : b ≤ i.val
    · rw [if_pos hi, tallyAt_apply, if_neg fun h' => hn.2 ⟨i, h'.1, hi⟩]
    · rw [if_neg hi]; rfl
  · by_cases hp : s p.1 < started p.2
    · rw [if_pos hp, tallyAt_apply, if_neg fun h' => hn.1 ⟨p, h'.1, hp⟩]
    · rw [if_neg hp]; rfl

/-! ## What a device may wait for -/

omit [FloatOps F] in
/-- A wait whose cell lies below everything owed. -/
theorem may_wait (b : ℕ) (sm : SemLoc sig) (n : ℕ) (hn : lv ((c : Thread nD τ), sm) () ≤ n)
    (hin : ∀ p : Fin 7 × Fin 4, s p.1 < started p.2 → n < if p.2 = 0 then 2 else 3) (hbar : ∀ i : Fin 5, b ≤ i.val → n < 1) :
    (levAts L lv : sProp 𝕄) ⊢ MayWait (c : Thread nD τ) sm () (owed σ c b s) :=
  MayOwe.of_cut (L := L) (lev := lv) n (fun p hp => by rw [Finset.mem_singleton.mp hp, L_tc]; exact Finset.mem_singleton_self _)
    (fun g u hg => by rcases owed_pos σ c hg with ⟨p, rfl, -⟩ | ⟨i, rfl, -⟩ <;> exact Finset.mem_singleton_self _)
    (fun p hp => by rw [Finset.mem_singleton.mp hp]; exact hn)
    (fun g u hg => by
      rcases owed_pos σ c hg with ⟨p, rfl, hp⟩ | ⟨i, rfl, hi⟩
      · rw [lv_in]; exact hin p hp
      · exact hbar i hi)

/-! ## The whole -/

/-- The cells of a device: its barrier's, or a kind's and a chunk's, leaving or landing. -/
abbrev Tag : Type := Option (Bool × Fin 4 × Fin 7)
abbrev cellAt (x : Dev nD × Tag) : GSem nD τ sig := match x.2 with
  | none => barCell x.1 | some (false, f, k) => outCell x.1 f k | some (true, f, k) => inCell x.1 f k

variable (K : Dev nD × Tag → ℕ)

/-- What never changes: every cell's invariant, that its round is reached, and the levels. -/
def record : sProp 𝕄 :=
  iprop((bigSep Finset.univ fun x : Dev nD × Tag => cellInv ER (sched X σ) (K x) (cellAt x))
    ∗ (bigSep Finset.univ fun x : Dev nD × Tag => reached ER (cellAt x) 0) ∗ levAts L lv)

instance record_persistent : BI.Persistent (record X σ K) := by unfold record; infer_instance

omit [FloatOps F] in
theorem record_inv (x : Dev nD × Tag) : record X σ K ⊢ cellInv ER (sched X σ) (K x) (cellAt x) := by
  unfold record; iintro ⟨H, -, -⟩
  iapply (show (bigSep Finset.univ fun x : Dev nD × Tag => (cellInv ER (sched X σ) (K x) (cellAt x) : sProp 𝕄)) ⊢ cellInv ER (sched X σ) (K x) (cellAt x) from
    bigSep_elim (Finset.mem_univ x)); iexact H
omit [FloatOps F] in
theorem record_reached (x : Dev nD × Tag) : record X σ K ⊢ reached ER (cellAt x) 0 := by
  unfold record; iintro ⟨-, H, -⟩
  iapply (show (bigSep Finset.univ fun x : Dev nD × Tag => (reached ER (cellAt x) 0 : sProp 𝕄)) ⊢ reached ER (cellAt x) 0 from
    bigSep_elim (Finset.mem_univ x)); iexact H
omit [FloatOps F] in
theorem record_levels : record X σ K ⊢ (levAts L lv : sProp 𝕄) := by
  unfold record; iintro ⟨-, -, H⟩; iexact H

omit [FloatOps F] in
/-- What is recorded allows every wait below everything owed. -/
theorem record_wait (b : ℕ) (sm : SemLoc sig) (n : ℕ) (hn : lv ((c : Thread nD τ), sm) () ≤ n)
    (hin : ∀ p : Fin 7 × Fin 4, s p.1 < started p.2 → n < if p.2 = 0 then 2 else 3) (hbar : ∀ i : Fin 5, b ≤ i.val → n < 1) :
    record X σ K ⊢ MayWait (c : Thread nD τ) sm () (owed σ c b s) := by
  unfold record
  iintro ⟨-, -, H⟩
  iapply (may_wait (F := F) σ c b sm n hn hin hbar)
  iexact H

/-- What device `c` holds at a barrier progress and phases. -/
def state (b : ℕ) (s : Fin 7 → ℕ) : sProp 𝕄 :=
  iprop(record X σ K ∗ (∃ W, owes (c : Thread nD τ) (owed σ c b s) W) ∗ greeting σ c b
    ∗ all (leaving X σ c) s ∗ all (landing X σ c) s ∗ all (lending X σ c) s ∗ all (beyond σ c b) s
    ∗ outcome X σ c s ∗ operands X σ c)

/-! ## Runs of operations -/

abbrev 𝒱₀ : Variants := Variants.none

/-- From `P`, a program ends with a value of which `φ` holds, and `R`. -/
def Runs {α : Type} (P : sProp 𝕄) (p : Prog (TpuEff nD τ sig (Elt F) Λ₀ .tc) α) (φ : α → Prop) (R : sProp 𝕄) : Prop :=
  P ⊢ wp frame (wpE (defs₀ (F := F)) 𝒱₀ (c : Thread nD τ) none) Set.univ p (fun v => iprop(⌜φ v⌝ ∗ R))

variable {c}

theorem Runs.bind {α β : Type} {P R T : sProp 𝕄} {p : Prog (TpuEff nD τ sig (Elt F) Λ₀ .tc) α} {q : α → Prog (TpuEff nD τ sig (Elt F) Λ₀ .tc) β}
    {φ : α → Prop} {ψ : β → Prop} (h : Runs c P p φ R) (h' : ∀ v, φ v → Runs c R (q v) ψ T) : Runs c P (p >>= q) ψ T := by
  unfold Runs
  rw [wp_bind]
  refine BI.Entails.trans h (wp_mono _ _ _ ?_)
  intro v
  iintro ⟨%hv, HR⟩
  have hq := h' v hv
  unfold Runs at hq
  iapply hq
  iexact HR

theorem Runs.ret {α : Type} {P : sProp 𝕄} {v : α} {φ : α → Prop} (h : φ v) : Runs c P (pure v) φ P := by
  unfold Runs
  rw [Prog.pure_eq_ret, wp_ret]
  iintro HP
  imodintro
  isplitr
  · ipureintro; exact h
  · iexact HP

/-- A program whose value nobody looks at. -/
theorem Runs.weaken {α : Type} {P R : sProp 𝕄} {p : Prog (TpuEff nD τ sig (Elt F) Λ₀ .tc) α} {φ ψ : α → Prop} (h : Runs c P p φ R)
    (h' : ∀ v, φ v → ψ v) : Runs c P p ψ R := by
  unfold Runs
  refine BI.Entails.trans h (wp_mono _ _ _ ?_)
  intro v
  iintro ⟨%hv, HR⟩
  isplitr
  · ipureintro; exact h' v hv
  · iexact HR

end Cert.Exchange

end
-- ==== Proof.Exchange.Moves.lean ====
/-
How the pieces of a device's state change when one chunk moves to its next phase.
-/
module

public import proofs.«01_k».proof.Proof.Exchange.State

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Chunk `k` goes from phase `n` to the next, the others stay. -/
abbrev Move (s s' : Fin 7 → ℕ) (k : Fin 7) (n : ℕ) : Prop := (∀ j, j ≠ k → s' j = s j) ∧ s k = n ∧ s' k = n + 1

/-- No threshold of `T` but the kinds' of `A` lies between a phase and the next. -/
abbrev Quiet (T : Fin 4 → ℕ) (n : ℕ) (A : Fin 4 → Prop) : Prop := ∀ f, ¬ A f → (n + 1 < T f ↔ n < T f)

variable (X : Dev nD → S1x1024x1024.Idx → Elt F .bf16) (σ : Equiv.Perm (Fin 4)) (c : Dev nD)

section Values
variable {n n' b : ℕ} (f : Fin 4) (k : Fin 7)

omit [FloatOps F] in
theorem leaving_same (h1 : n' < started f ↔ n < started f) (h2 : n' < ended f ↔ n < ended f) : leaving X σ c n' f k = leaving X σ c n f k := by
  unfold leaving; simp only [h1, h2]
omit [FloatOps F] in
theorem landing_same (h1 : n' < arrived f ↔ n < arrived f) : landing X σ c n' f k = landing X σ c n f k := by
  unfold landing; simp only [h1]
omit [FloatOps F] in
theorem lending_same (h1 : n' < started f ↔ n < started f) (h2 : n' < ready f ↔ n < ready f) : lending X σ c n' f k = lending X σ c n f k := by
  unfold lending; simp only [h1, h2]
omit [FloatOps F] in
theorem beyond_same (h1 : n' < started f ↔ n < started f) : beyond (F := F) σ c b n' f k = beyond σ c b n f k := by
  unfold beyond; simp only [h1]

omit [FloatOps F] in
theorem leaving_before (h : n < started f) : leaving X σ c n f k
    = iprop(dutyTok ER (outCell c f k) 0 0 ∗ dutyTok ER (inCell (link σ f c) f k) 0 0 ∗ atPos ER (outCell c f k) 0 ∅ 0) := if_pos h
omit [FloatOps F] in
theorem leaving_during (h : ¬ n < started f) (h' : n < ended f) : leaving X σ c n f k
    = iprop(cred (tallyAt (outCell c f k) () (N k)) ∗ atPos ER (outCell c f k) 0 ∅ 0) := (if_neg h).trans (if_pos h')
omit [FloatOps F] in
theorem leaving_after (h : ¬ n < started f) (h' : ¬ n < ended f) : leaving X σ c n f k = iprop(outPay X σ c f k ∗ semVal (outCell c f k) 0) :=
  (if_neg h).trans (if_neg h')
omit [FloatOps F] in
theorem landing_before (h : n < arrived f) : landing X σ c n f k
    = iprop(cred (tallyAt (inCell c f k) () (N k)) ∗ atPos ER (inCell c f k) 0 ∅ 0) := if_pos h
omit [FloatOps F] in
theorem landing_after (h : ¬ n < arrived f) : landing X σ c n f k = iprop(win c (buf f) k (hold f) (brought X σ f c) ∗ semVal (inCell c f k) 0) := if_neg h
omit [FloatOps F] in
theorem lending_ready (h : n < started f) (h' : ¬ n < ready f) : lending X σ c n f k = win c (orig f) k (lent f) (carried X σ f c) :=
  (if_pos h).trans (if_neg h')
omit [FloatOps F] in
theorem lending_after (h : ¬ n < started f) : lending X σ c n f k = iprop(emp) := if_neg h
omit [FloatOps F] in
theorem beyond_before (h : n < started f) : beyond (F := F) σ c 6 n f k = any (link σ f c) (buf f) k := (if_pos rfl).trans (if_pos h)
omit [FloatOps F] in
theorem beyond_after (h : ¬ n < started f) : beyond (F := F) σ c 6 n f k = iprop(emp) := (if_pos rfl).trans (if_neg h)
omit [FloatOps F] in
theorem beyond_early (h : b ≠ 6) : beyond (F := F) σ c b n f k = iprop(emp) := if_neg h

end Values

section Steps
variable {s s' : Fin 7 → ℕ} {k : Fin 7} {n b : ℕ} (hm : Move s s' k n)
include hm

omit [FloatOps F] in
theorem leaving_keep (h1 : Quiet started n fun _ => False) (h2 : Quiet ended n fun _ => False) : all (leaving X σ c) s' = all (leaving X σ c) s :=
  all_keep hm.1 fun f => by rw [hm.2.1, hm.2.2]; exact leaving_same X σ c f k (h1 f not_false) (h2 f not_false)
omit [FloatOps F] in
theorem landing_keep (h1 : Quiet arrived n fun _ => False) : all (landing X σ c) s' = all (landing X σ c) s :=
  all_keep hm.1 fun f => by rw [hm.2.1, hm.2.2]; exact landing_same X σ c f k (h1 f not_false)
omit [FloatOps F] in
theorem lending_keep (h1 : Quiet started n fun _ => False) (h2 : Quiet ready n fun _ => False) : all (lending X σ c) s' = all (lending X σ c) s :=
  all_keep hm.1 fun f => by rw [hm.2.1, hm.2.2]; exact lending_same X σ c f k (h1 f not_false) (h2 f not_false)
omit [FloatOps F] in
theorem beyond_keep (h1 : Quiet started n fun _ => False) : all (beyond (F := F) σ c b) s' = all (beyond σ c b) s :=
  all_keep hm.1 fun f => by rw [hm.2.1, hm.2.2]; exact beyond_same σ c f k (h1 f not_false)
theorem owed_quiet (h1 : Quiet started n fun _ => False) : owed σ c b s' = owed σ c b s :=
  owed_keep σ c b hm.1 fun f => by rw [hm.2.1, hm.2.2]; exact h1 f not_false
theorem outcome_keep (h : ∀ f, stored f ≤ n + 1 ↔ stored f ≤ n) : outcome X σ c s' = outcome X σ c s := by
  have h' : ∀ f j, stored f ≤ s' j ↔ stored f ≤ s j := fun f j => by
    by_cases hj : j = k
    · rw [hj, hm.2.1, hm.2.2]; exact h f
    · rw [hm.1 j hj]
  unfold outcome; simp only [h']

omit [FloatOps F] in
theorem leaving_turn (f : Fin 4) (h1 : Quiet started n (· = f)) (h2 : Quiet ended n (· = f)) :
    all (leaving X σ c) s ⊢ iprop(leaving X σ c n f k ∗ (leaving X σ c (n + 1) f k -∗ all (leaving X σ c) s')) := by
  have h := all_turn (Φ := leaving X σ c) f hm.1 fun f' hf => by rw [hm.2.1, hm.2.2]; exact leaving_same X σ c f' k (h1 f' hf) (h2 f' hf)
  rwa [hm.2.1, hm.2.2] at h
omit [FloatOps F] in
theorem landing_turn (f : Fin 4) (h1 : Quiet arrived n (· = f)) :
    all (landing X σ c) s ⊢ iprop(landing X σ c n f k ∗ (landing X σ c (n + 1) f k -∗ all (landing X σ c) s')) := by
  have h := all_turn (Φ := landing X σ c) f hm.1 fun f' hf => by rw [hm.2.1, hm.2.2]; exact landing_same X σ c f' k (h1 f' hf)
  rwa [hm.2.1, hm.2.2] at h
omit [FloatOps F] in
theorem lending_turn (f : Fin 4) (h1 : Quiet started n (· = f)) (h2 : Quiet ready n (· = f)) :
    all (lending X σ c) s ⊢ iprop(lending X σ c n f k ∗ (lending X σ c (n + 1) f k -∗ all (lending X σ c) s')) := by
  have h := all_turn (Φ := lending X σ c) f hm.1 fun f' hf => by rw [hm.2.1, hm.2.2]; exact lending_same X σ c f' k (h1 f' hf) (h2 f' hf)
  rwa [hm.2.1, hm.2.2] at h
omit [FloatOps F] in
theorem beyond_turn (f : Fin 4) (h1 : Quiet started n (· = f)) :
    all (beyond (F := F) σ c b) s ⊢ iprop(beyond σ c b n f k ∗ (beyond σ c b (n + 1) f k -∗ all (beyond σ c b) s')) := by
  have h := all_turn (Φ := beyond (F := F) σ c b) f hm.1 fun f' hf => by rw [hm.2.1, hm.2.2]; exact beyond_same σ c f' k (h1 f' hf)
  rwa [hm.2.1, hm.2.2] at h

end Steps

end Cert.Exchange

end
-- ==== Proof.Exchange.Buffers.lean ====
/- The buffers of a quarter, cut into their chunks and put together again. -/
module

public import proofs.«01_k».proof.Proof.Exchange.Moves
public import Idealize.ShloMosaic.Lib.Ring

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} {M : Memref sig .tc .vmem S256x1024 .bf16}

/-! ## The chunks of a buffer -/

theorem chunks_apart : ∀ k k' : Fin 7, k ≠ k' → first k + height k ≤ first k' ∨ first k' + height k' ≤ first k := by decide
theorem chunks_meet : ∀ r : Fin 256, ∃ k : Fin 7, first k ≤ r.val ∧ r.val < first k + height k := by decide

theorem chunk_disjoint (k k' : Fin 7) (h : k ≠ k') : Disjoint (part M k).view.set (part M k').view.set := by
  show Disjoint (M.view.slice (chunk k)).set (M.view.slice (chunk k')).set
  rw [View.set_slice, View.set_slice, Finset.disjoint_map]
  exact Rect.unit_disjoint 0 (chunks_apart k k' h)

theorem mem_chunk (k : Fin 7) (i : S256x1024.Idx) : i ∈ (chunk k).set ↔ first k ≤ (i 0).val ∧ (i 0).val < first k + height k := by
  rw [Rect.mem_set_unit]
  constructor
  · intro h; exact h 0
  · intro h a
    refine Fin.cases h (fun b => ?_) a
    obtain rfl : b = 0 := Subsingleton.elim _ _
    exact ⟨Nat.zero_le _, by show (i 1).val < 0 + 1024; have : (i 1).val < 1024 := (i 1).isLt; omega⟩

/-- A chunk's elements, of the buffer's. -/
abbrev elems (M : Memref sig .tc .vmem S256x1024 .bf16) (k : Fin 7) : Finset M.view.ty.Idx := (part M k).view.set

theorem chunk_cover (hM : M.IsWhole) : Finset.univ.biUnion (elems M) = Finset.univ := by
  refine Finset.eq_univ_iff_forall.mpr fun x => ?_
  have hx : x ∈ M.view.set := by rw [hM.set_eq_univ]; exact Finset.mem_univ x
  rw [View.set, Finset.mem_map] at hx
  obtain ⟨i, -, rfl⟩ := hx
  obtain ⟨k, hk⟩ := chunks_meet (i 0)
  refine Finset.mem_biUnion.mpr ⟨k, Finset.mem_univ k, ?_⟩
  show _ ∈ (M.view.slice (chunk k)).set
  rw [View.set_slice]
  exact Finset.mem_map_of_mem _ ((mem_chunk k i).mpr hk)

/-! ## A whole buffer -/

/-- A whole buffer, holding anything. -/
def pool (c : Dev nD) (M : Memref sig .tc .vmem S256x1024 .bf16) : sProp 𝕄 :=
  iprop(∃ g : Buf (Elt F) (M.view.loc (c : Thread nD τ)), (M.view.loc (c : Thread nD τ)) ↦{fullShare} g)

omit [FloatOps F] in
theorem any_of (k : Fin 7) (g : Buf (Elt F) (M.view.loc (c : Thread nD τ))) :
    ((part M k).view.loc (c : Thread nD τ) ↦[(part M k).view.set]{fullShare} g) ⊢ any c M k := by
  unfold any
  exact exists_intro (Φ := fun g : Buf (Elt F) (M.view.loc (c : Thread nD τ)) => ((part M k).view.loc (c : Thread nD τ) ↦[(part M k).view.set]{fullShare} g : sProp 𝕄)) g

omit [FloatOps F] in
theorem pool_open (hM : M.IsWhole) : pool (F := F) c M ⊢ bigSep Finset.univ fun k : Fin 7 => any c M k := by
  unfold pool
  iintro ⟨%g, H⟩
  ihave H := (Entails.of_eq (Ring.pointsTo_blocks (ℓ := M.view.loc (c : Thread nD τ)) (elems M)
    (fun k k' h => chunk_disjoint k k' h) (chunk_cover hM) g)) $$ H
  iapply (show (bigSep Finset.univ fun k : Fin 7 => ((M.view.loc (c : Thread nD τ)) ↦[(part M k).view.set]{fullShare} g : sProp 𝕄))
    ⊢ bigSep Finset.univ fun k : Fin 7 => any c M k from bigSep_mono fun k _ => any_of k g)
  iexact H

theorem pool_close (hM : M.IsWhole) : (bigSep Finset.univ fun k : Fin 7 => any c M k) ⊢ pool (F := F) c M :=
  Ring.pointsTo_blocks_join_exists (ℓ := M.view.loc (c : Thread nD τ)) (elems M)
    (fun k k' h => chunk_disjoint k k' h) (chunk_cover hM) (Classical.arbitrary _)

/-! ## The shares of a chunk -/

/-- A chunk held at a share, holding anything. -/
def lease (c : Dev nD) (M : Memref sig .tc .vmem S256x1024 .bf16) (k : Fin 7) (q : PosShare TreeShare) : sProp 𝕄 :=
  iprop(∃ g : Buf (Elt F) (M.view.loc (c : Thread nD τ)), ((part M k).view.loc (c : Thread nD τ) ↦[(part M k).view.set]{q} g))

omit [FloatOps F] in
theorem any_eq (k : Fin 7) : any (F := F) c M k = lease c M k fullShare := rfl

omit [FloatOps F] in
theorem win_forget (k : Fin 7) (q : PosShare TreeShare) (T : S256x1024.Idx → Elt F .bf16) : win c M k q T ⊢ lease c M k q := by
  unfold win lease; iintro ⟨%g, -, H⟩; iexists g; iexact H

omit [FloatOps F] in
theorem lease_join {q q₁ q₂ : PosShare TreeShare} (h : q ∈ PCS.op q₁ q₂) (k : Fin 7) : iprop(lease (F := F) c M k q₁ ∗ lease c M k q₂) ⊢ lease c M k q := by
  unfold lease
  iintro ⟨⟨%f, H1⟩, ⟨%g, H2⟩⟩
  ihave H := (show iprop((((part M k).view.loc (c : Thread nD τ) ↦[(part M k).view.set]{q₁} f)) ∗ ((part M k).view.loc (c : Thread nD τ) ↦[(part M k).view.set]{q₂} g))
      ⊢ (((part M k).view.loc (c : Thread nD τ) ↦[(part M k).view.set]{q} f) : sProp 𝕄) from
    (Laws.pure_elim _ pointsTo_agree fun h' => by
      rw [pointsTo_congr (f := g) (g := f) fun i hi => (h' i (Finset.mem_inter.mpr ⟨hi, hi⟩)).1.symm]
      exact (pointsTo_share h).2)) $$ [H1 H2]
  · isplitl [H1] <;> iassumption
  iexists f; iexact H

end Cert.Exchange

end
-- ==== Proof.Exchange.Comm.lean ====
/-
The body's signals, waits and copies, as steps of a device's state.
-/
module

public import proofs.«01_k».proof.Proof.Exchange.Moves

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → S1x1024x1024.Idx → Elt F .bf16} {σ : Equiv.Perm (Fin 4)} {c : Dev nD} {K : Dev nD × Tag → ℕ}
  {b : ℕ} {s s' : Fin 7 → ℕ}

omit [FloatOps F] in
theorem beyond_all_early {b' : ℕ} (h : b ≠ 6) (h' : b' ≠ 6) : all (beyond (F := F) σ c b) s = all (beyond σ c b') s := by
  unfold all
  exact bigSep_congr fun p _ => (beyond_early σ c p.2 p.1 h).trans (beyond_early σ c p.2 p.1 h').symm

/-! ## The barrier -/

omit [FloatOps F] in
/-- A signal's token and what it hands over, taken out. -/
theorem greeting_take (i : Fin 5) : greeting (F := F) σ c i.val
    ⊢ iprop((dutyTok ER (barCell (hail σ i c)) 0 i ∗ offer c i) ∗ greeting σ c (i.val + 1)) := by
  have hi := i.isLt
  unfold greeting
  rw [if_neg (show ¬ i.val = 6 by omega), if_neg (show ¬ i.val + 1 = 6 by omega)]
  iintro ⟨H, Hw⟩
  ihave H' := (bigSep_univ_update (Φ := fun j : Fin 5 => if i.val ≤ j.val then iprop(dutyTok ER (barCell (hail σ j c)) 0 j ∗ offer (F := F) c j) else iprop(emp))
    (Ψ := fun j : Fin 5 => if i.val + 1 ≤ j.val then iprop(dutyTok ER (barCell (hail σ j c)) 0 j ∗ offer (F := F) c j) else iprop(emp)) i fun j hj => by
      have hne : j.val ≠ i.val := fun h => hj (Fin.ext h)
      by_cases h : i.val ≤ j.val
      · rw [if_pos h, if_pos (by omega)]
      · rw [if_neg h, if_neg (by omega)]) $$ H
  rw [if_pos (le_refl i.val), if_neg (show ¬ i.val + 1 ≤ i.val by omega)]
  icases H' with ⟨H1, H2⟩
  isplitl [H1]; · iexact H1
  isplitl [H2]
  · iapply H2; iempintro
  · iexact Hw

/-- A signal at entry. -/
theorem signal (i : Fin 5) {n : Dev nD} (hn : n = hail σ i c) :
    Runs c (state X σ c K i.val s) (semSignalWord n barS 1#32) (fun _ => True) (state X σ c K (i.val + 1) s) := by
  subst hn
  have hi := i.isLt
  unfold Runs state semSignalWord
  rw [beyond_all_early (b := i.val + 1) (b' := i.val) (by omega) (by omega), owed_signal σ c i s]
  iintro ⟨#HR, ⟨%W, HO⟩, HG, HL, HA, HV, HB, HU, HX⟩
  ihave HG' := (greeting_take (F := F) (σ := σ) (c := c) i) $$ HG
  icases HG' with ⟨⟨Ht, Hp⟩, HG⟩
  iapply (Rounds.wp_signal 𝒱₀ ER (sched X σ) (c : Thread nD τ) none (dst := (hail σ i c : Thread nD τ)) (κ := K (hail σ i c, none)) (r := 0) (d := i) (k := .ret)
      (by rw [duties_bar]; exact Finset.mem_univ _) ((amount_bar X σ (hail σ i c) i).trans (by decide)) () (owed σ c (i.val + 1) s) rfl) $$ [HO Ht Hp]
  · isplitr; · iapply (record_inv X σ K (hail σ i c, none)); iexact HR
    isplitl [HO]; · iexact HO
    isplitl [Ht]; · iexact Ht
    isplitl [Hp]
    · rw [payload_bar, Equiv.symm_apply_apply]; iexact Hp
    iapply (record_reached X σ K (hail σ i c, none)); iexact HR
  iintro HO
  rw [wp_ret]; imodintro
  isplitr; · ipureintro; trivial
  isplitr; · iexact HR
  isplitl [HO]; · iexists W; iexact HO
  isplitl [HG]; · iexact HG
  isplitl [HL]; · iexact HL
  isplitl [HA]; · iexact HA
  isplitl [HV]; · iexact HV
  isplitl [HB]; · iexact HB
  isplitl [HU] <;> iassumption

omit [FloatOps F] in
theorem hail_symm (σ : Equiv.Perm (Fin 4)) (c : Dev nD) : (hail σ 0).symm c = link σ 0 c ∧ (hail σ 2).symm c = link σ 1 c ∧ (hail σ 3).symm c = link σ 2 c
    ∧ (hail σ 4).symm c = link σ 3 c := ⟨rfl, rfl, rfl, rfl⟩

omit [FloatOps F] in
theorem bigSep_hails (Ψ : Fin 5 → sProp 𝕄) : bigSep Finset.univ Ψ = iprop(Ψ 0 ∗ Ψ 1 ∗ Ψ 2 ∗ Ψ 3 ∗ Ψ 4) :=
  bigSep_univ_eq_bigSepL [0, 1, 2, 3, 4] (by decide) (by decide) Ψ

omit [FloatOps F] in
/-- What the five signals hand over is every place this device's copies land in. -/
theorem offers (hs : ∀ j, s j < 2) : (bigSep Finset.univ fun d : Fin 5 => offer (F := F) ((hail σ d).symm c) d) ⊢ all (beyond σ c 6) s := by
  have h (f : Fin 4) : (bigSep Finset.univ fun k : Fin 7 => any (F := F) (link σ f c) (buf f) k) = bigSep Finset.univ fun k : Fin 7 => beyond σ c 6 (s k) f k :=
    bigSep_congr fun k _ => (beyond_before σ c f k (by
      have h2 := hs k
      have : 2 ≤ started f := by clear h2; revert f; decide
      omega)).symm
  unfold all
  rw [bigSep_univ_prod (fun p : Fin 7 × Fin 4 => beyond (F := F) σ c 6 (s p.1) p.2 p.1),
    bigSep_univ_comm (fun (k : Fin 7) (f : Fin 4) => beyond (F := F) σ c 6 (s k) f k), bigSep_kinds, ← h, ← h, ← h, ← h, bigSep_hails]
  show iprop((bigSep Finset.univ fun k : Fin 7 => any (F := F) (link σ 0 c) (buf 0) k) ∗ emp
    ∗ (bigSep Finset.univ fun k : Fin 7 => any (F := F) (link σ 1 c) (buf 1) k) ∗ (bigSep Finset.univ fun k : Fin 7 => any (F := F) (link σ 2 c) (buf 2) k)
    ∗ (bigSep Finset.univ fun k : Fin 7 => any (F := F) (link σ 3 c) (buf 3) k)) ⊢ _
  iintro ⟨H0, -, H1, H2, H3⟩
  isplitl [H0]; · iexact H0
  isplitl [H1]; · iexact H1
  isplitl [H2]; · iexact H2
  iexact H3

/-- The wait at entry: every place this device's copies land in is its to fill. -/
theorem wait_entry (hs : ∀ j, s j < 2) : Runs c (state X σ c K 5 s) (semWaitWord barS 5#32) (fun _ => True) (state X σ c K 6 s) := by
  unfold Runs state semWaitWord greeting
  rw [owed_wait, if_neg (show ¬ (5 : ℕ) = 6 by decide), if_pos (show (6 : ℕ) = 6 from rfl)]
  iintro ⟨#HR, ⟨%W, HO⟩, ⟨-, Hc, Hat⟩, HL, HA, HV, -, HU, HX⟩
  iapply (Rounds.wp_wait_rest_token 𝒱₀ ER (sched X σ) (c : Thread nD τ) none (κ := K (c, none)) (k := .ret)
      (wpE_semWait_eq 𝒱₀ (c : Thread nD τ) none Set.univ) (Set.mem_univ _) () (O := owed σ c 5 s) (W := W) (R := 0) (m := 0) (T := ∅)
      (by rw [expect_bar]; decide)) $$ [Hc HO Hat]
  · isplitr; · iapply (record_inv X σ K (c, none)); iexact HR
    isplitl [Hc]; · iexact Hc
    isplitl [HO]; · iexact HO
    isplitr
    · iapply (record_wait (X := X) (K := K) σ c (s := s) 5 (.reg barS) 1 (le_refl 1) (fun p _ => by split <;> decide) (fun i hi => absurd i.isLt (by omega))); iexact HR
    iexact Hat
  iintro ⟨HO, Hat, -, Hpay⟩
  ihave Hp := (Entails.of_eq (rest_bar X σ c)) $$ Hpay
  ihave HB := (offers (F := F) (σ := σ) (c := c) hs) $$ Hp
  rw [wp_ret]
  imod (Rounds.cell_close ER (sched X σ) (Set.mem_univ (K (c, none))) (fun h => h) (R := 0 + 1) (duties_later X σ (barCell c))) $$ [Hat] with Hz
  · isplitr; · iapply (record_inv X σ K (c, none)); iexact HR
    iexact Hat
  imodintro
  isplitr; · ipureintro; trivial
  isplitr; · iexact HR
  isplitl [HO]; · iexists _; iexact HO
  isplitl [Hz]
  · isplitr
    · rw [show (bigSep Finset.univ fun i : Fin 5 => if 6 ≤ i.val then iprop(dutyTok ER (barCell (hail σ i c)) 0 i ∗ offer (F := F) c i) else iprop(emp))
        = bigSep Finset.univ fun i : Fin 5 => iprop(emp) from bigSep_congr fun i _ => if_neg (by omega)]
      iapply (bigSep_intro_persistent (R := iprop(emp)) (S := Finset.univ) (Φ := fun _ : Fin 5 => iprop(emp)) fun _ _ => Entails.refl _)
      iempintro
    · iexact Hz
  isplitl [HL]; · iexact HL
  isplitl [HA]; · iexact HA
  isplitl [HV]; · iexact HV
  isplitl [HB]; · iexact HB
  isplitl [HU] <;> iassumption

/-! ## A copy starts -/

theorem quiet_started (f : Fin 4) : Quiet started (started f - 1) (· = f) ∧ Quiet ended (started f - 1) (fun _ => False)
    ∧ Quiet arrived (started f - 1) (fun _ => False) ∧ Quiet ready (started f - 1) (fun _ => False)
    ∧ (∀ f', stored f' ≤ started f - 1 + 1 ↔ stored f' ≤ started f - 1) := by revert f; decide
theorem at_started (f : Fin 4) : started f - 1 < started f ∧ ¬ started f - 1 + 1 < started f ∧ ¬ started f - 1 < ready f ∧ started f - 1 + 1 < ended f := by
  revert f; decide

/-- A copy of a chunk to the device its kind names. -/
theorem start_copy (f : Fin 4) (k : Fin 7) (hm : Move s s' k (started f - 1)) {n : Dev nD} (hn : n = link σ f c)
    {hsc : (part (buf f) k : Memref sig (Dev.tc n : Thread nD τ).2.kind .vmem (chunk k).shape .bf16).view.ref.isScScratch = false}
    {hsrc : (part (orig f) k).view.WordExact} {hdst : (part (buf f) k).view.WordExact}
    {hsem : DmaTarget.Typed .vmem (.dma (inSem f k)) (.remote (Dev.tc n : Thread nD τ) (part (buf f) k) (.dma (outSem f k)) hsc)} :
    Runs c (state X σ c K 6 s)
      (Prog.lift (.enqueueDma (part (orig f) k) (.remote (Dev.tc n : Thread nD τ) (part (buf f) k) (.dma (outSem f k)) hsc) (.dma (inSem f k)) hsrc hdst hsem))
      (fun _ => True) (state X σ c K 6 s') := by
  subst hn
  obtain ⟨q1, q2, q3, q4, q5⟩ := quiet_started f
  obtain ⟨a1, a2, a3, a4⟩ := at_started f
  have hs1 : s' k = s k + 1 := by rw [hm.2.1, hm.2.2]
  have hs2 : started f = s k + 1 := by rw [hm.2.1]; omega
  unfold Runs state
  rw [landing_keep X σ c hm q3, outcome_keep X σ c hm q5, owed_start σ c 6 f hm.1 hs1 hs2]
  iintro ⟨#HR, ⟨%W, HO⟩, HG, HL, HA, HV, HB, HU, HX⟩
  ihave H := (leaving_turn X σ c hm f q1 fun f' _ => q2 f' not_false) $$ HL
  ihave H' := (lending_turn X σ c hm f q1 fun f' _ => q4 f' not_false) $$ HV
  ihave H'' := (beyond_turn (F := F) σ c hm f q1) $$ HB
  rw [leaving_before X σ c f k a1, leaving_during X σ c f k a2 a4, lending_ready X σ c f k a1 a3, lending_after X σ c f k a2,
    beyond_before σ c f k a1, beyond_after σ c f k a2]
  icases H with ⟨⟨Ht1, Ht2, Hat⟩, HL⟩
  icases H' with ⟨Hsrc, HV⟩
  icases H'' with ⟨Hdst, HB⟩
  unfold win any
  icases Hsrc with ⟨%g, %hg, Hsrc⟩
  icases Hdst with ⟨%fd, Hdst⟩
  iapply (Rounds.wp_send_pointsTo 𝒱₀ ER (sched X σ) (c : Thread nD τ) none (κ₁ := K (c, some (false, f, k))) (κ₂ := K (link σ f c, some (true, f, k)))
      (c' := (link σ f c : Thread nD τ)) (src := part (orig f) k) (dst := part (buf f) k) (sS := .dma (outSem f k)) (sem := .dma (inSem f k))
      (r₁ := 0) (r₂ := 0) (d₁ := 0) (d₂ := 0) (fs := g) (fd := fd) (q := lent f) (k := .ret)
      (by rw [duties_dma]; exact Finset.mem_singleton_self _) (by rw [duties_dma]; exact Finset.mem_singleton_self _)
      () () (N k) (N_buf f k) (amount_out X σ c f k 0) (amount_in X σ (link σ f c) f k 0) (owed σ c 6 s') rfl (W := W)
      (by
        rw [payload_out]; unfold outPay win
        iintro H; iexists g
        isplitr; · ipureintro; exact hg
        iexact H)
      (by
        rw [payload_in]; unfold inPay win
        iintro H; iexists ((part (buf f) k).view.write (Elt F) fd ((part (orig f) k).view.read (Elt F) g) Finset.univ)
        isplitr
        · ipureintro
          intro i
          refine (View.read_slice_write_emb (v := (buf f).view) (chunk k) fd _ (Finset.mem_univ i)).trans ?_
          refine (hg i).trans ?_
          unfold brought
          rw [Equiv.symm_apply_apply]
        iexact H)) $$ [Hsrc Hdst HO Ht1 Ht2]
  · isplitr; · iapply (record_inv X σ K (c, some (false, f, k))); iexact HR
    isplitr; · iapply (record_inv X σ K (link σ f c, some (true, f, k))); iexact HR
    isplitl [Hsrc]; · iexact Hsrc
    isplitl [Hdst]; · iexact Hdst
    isplitl [HO]; · iexact HO
    isplitl [Ht1]; · iexact Ht1
    isplitr; · iapply (record_reached X σ K (c, some (false, f, k))); iexact HR
    isplitl [Ht2]; · iexact Ht2
    iapply (record_reached X σ K (link σ f c, some (true, f, k))); iexact HR
  iintro ⟨Hc, HO⟩
  rw [wp_ret]; imodintro
  isplitr; · ipureintro; trivial
  isplitr; · iexact HR
  isplitl [HO]; · iexists W; iexact HO
  isplitl [HG]; · iexact HG
  isplitl [HL Hc Hat]
  · iapply HL
    isplitl [Hc] <;> iassumption
  isplitl [HA]; · iexact HA
  isplitl [HV]; · iapply HV; iempintro
  isplitl [HB]; · iapply HB; iempintro
  isplitl [HU] <;> iassumption

/-! ## A copy that leaves is waited for -/

theorem quiet_ended (f : Fin 4) : Quiet ended (ended f - 1) (· = f) ∧ Quiet started (ended f - 1) (fun _ => False)
    ∧ Quiet arrived (ended f - 1) (fun _ => False) ∧ Quiet ready (ended f - 1) (fun _ => False)
    ∧ (∀ f', stored f' ≤ ended f - 1 + 1 ↔ stored f' ≤ ended f - 1) := by revert f; decide
theorem at_ended (f : Fin 4) : ¬ ended f - 1 < started f ∧ ¬ ended f - 1 + 1 < started f ∧ ended f - 1 < ended f ∧ ¬ ended f - 1 + 1 < ended f := by
  revert f; decide

theorem wait_left (f : Fin 4) (k : Fin 7) (hm : Move s s' k (ended f - 1)) {src dst : Memref sig .tc .vmem (chunk k).shape .bf16}
    (hN : dst.view.dmaCredit = N k) {hsrc : src.view.WordExact} {hdst : dst.view.WordExact} :
    Runs c (state X σ c K 6 s) (Prog.lift (.waitDma2 (outSem f k) src dst hsrc hdst)) (fun _ => True) (state X σ c K 6 s') := by
  obtain ⟨q1, q2, q3, q4, q5⟩ := quiet_ended f
  obtain ⟨a1, a2, a3, a4⟩ := at_ended f
  unfold Runs state
  rw [landing_keep X σ c hm q3, lending_keep X σ c hm q2 q4, beyond_keep σ c hm q2, outcome_keep X σ c hm q5, owed_quiet σ c hm q2]
  iintro ⟨#HR, ⟨%W, HO⟩, HG, HL, HA, HV, HB, HU, HX⟩
  ihave H := (leaving_turn X σ c hm f (fun f' _ => q2 f' not_false) q1) $$ HL
  rw [leaving_during X σ c f k a1 a3, leaving_after X σ c f k a2 a4]
  icases H with ⟨⟨Hc, Hat⟩, HL⟩
  iapply (Rounds.wp_wait_rest_token 𝒱₀ ER (sched X σ) (c : Thread nD τ) none (κ := K (c, some (false, f, k))) (k := .ret)
      (wpE_waitDma2_eq 𝒱₀ (c : Thread nD τ) none Set.univ) (Set.mem_univ _) () (O := owed σ c 6 s) (W := W) (R := 0) (m := 0) (T := ∅)
      (by rw [Nat.zero_add, expect_out, hN])) $$ [Hc HO Hat]
  · isplitr; · iapply (record_inv X σ K (c, some (false, f, k))); iexact HR
    isplitl [Hc]; · rw [hN]; iexact Hc
    isplitl [HO]; · iexact HO
    isplitr
    · iapply (record_wait (X := X) (K := K) σ c (s := s) 6 (.dma (outSem f k)) 0 (le_of_eq (lv_out c f k)) (fun p _ => by split <;> decide) (fun i hi => Nat.one_pos)); iexact HR
    iexact Hat
  iintro ⟨HO, Hat, -, Hpay⟩
  ihave Hp := (Entails.of_eq (rest_out X σ c f k)) $$ Hpay
  rw [wp_ret]
  imod (Rounds.cell_close ER (sched X σ) (Set.mem_univ (K (c, some (false, f, k)))) (fun h => h) (R := 0 + 1) (duties_later X σ (outCell c f k))) $$ [Hat] with Hz
  · isplitr; · iapply (record_inv X σ K (c, some (false, f, k))); iexact HR
    iexact Hat
  imodintro
  isplitr; · ipureintro; trivial
  isplitr; · iexact HR
  isplitl [HO]; · iexists _; iexact HO
  isplitl [HG]; · iexact HG
  isplitl [HL Hp Hz]
  · iapply HL
    isplitl [Hp] <;> iassumption
  isplitl [HA]; · iexact HA
  isplitl [HV]; · iexact HV
  isplitl [HB]; · iexact HB
  isplitl [HU] <;> iassumption

/-! ## A copy that lands is waited for -/

theorem quiet_arrived (f : Fin 4) : Quiet arrived (arrived f - 1) (· = f) ∧ Quiet started (arrived f - 1) (fun _ => False)
    ∧ Quiet ended (arrived f - 1) (fun _ => False) ∧ (f ≠ 0 → Quiet ready (arrived f - 1) (fun _ => False))
    ∧ (∀ f', stored f' ≤ arrived f - 1 + 1 ↔ stored f' ≤ arrived f - 1) := by revert f; decide
theorem at_arrived (f : Fin 4) : arrived f - 1 < arrived f ∧ ¬ arrived f - 1 + 1 < arrived f := by revert f; decide

omit [FloatOps F] in
/-- A landed chunk along `z` in four shares: three for the copies to the peers, one kept. -/
theorem shares (k : Fin 7) : inPay X σ c 0 k
    ⊢ iprop(win c (buf 0) k kept (brought X σ 0 c) ∗ win c (orig 1) k (lent 1) (carried X σ 1 c)
      ∗ win c (orig 2) k (lent 2) (carried X σ 2 c) ∗ win c (orig 3) k (lent 3) (carried X σ 3 c)) := by
  unfold inPay win
  iintro ⟨%g, %hg, H⟩
  ihave H := (pointsTo_share (PosShare.mem_left_op_right fullShare)).1 $$ H
  icases H with ⟨Hl, Hr⟩
  ihave Hl := (pointsTo_share (PosShare.mem_left_op_right fullShare.left)).1 $$ Hl
  ihave Hr := (pointsTo_share (PosShare.mem_left_op_right fullShare.right)).1 $$ Hr
  icases Hl with ⟨H1, H2⟩
  icases Hr with ⟨H3, H4⟩
  isplitl [H4]
  · iexists g; isplitr; · ipureintro; exact hg
    iexact H4
  isplitl [H1]
  · iexists g; isplitr; · ipureintro; exact hg
    iexact H1
  isplitl [H2]
  · iexists g; isplitr; · ipureintro; exact hg
    iexact H2
  iexists g; isplitr; · ipureintro; exact hg
  iexact H3

omit [FloatOps F] in
/-- What the body keeps of a landed chunk, and what it will copy on. -/
theorem lending_landed (f : Fin 4) (k : Fin 7) (hm : Move s s' k (arrived f - 1)) :
    iprop(inPay X σ c f k ∗ all (lending X σ c) s) ⊢ iprop(win c (buf f) k (hold f) (brought X σ f c) ∗ all (lending X σ c) s') := by
  obtain ⟨q1, q2, q3, q4, q5⟩ := quiet_arrived f
  by_cases hf : f = 0
  · subst hf
    iintro ⟨Hp, HV⟩
    ihave H := (all_chunk (Φ := lending X σ c) hm.1) $$ HV
    rw [hm.2.1, hm.2.2]
    icases H with ⟨-, HV⟩
    ihave Hp := (shares (X := X) (σ := σ) (c := c) k) $$ Hp
    icases Hp with ⟨H0, H1, H2, H3⟩
    isplitl [H0]; · iexact H0
    iapply HV
    isplitr; · rw [lending_after X σ c 0 k (by decide)]; iempintro
    isplitl [H1]; · rw [lending_ready X σ c 1 k (by decide) (by decide)]; iexact H1
    isplitl [H2]; · rw [lending_ready X σ c 2 k (by decide) (by decide)]; iexact H2
    rw [lending_ready X σ c 3 k (by decide) (by decide)]; iexact H3
  · rw [lending_keep X σ c hm q2 (q4 hf), show hold f = fullShare by clear q1 q2 q3 q4 q5 hm; revert f; decide]
    exact Entails.refl _

theorem wait_landed (f : Fin 4) (k : Fin 7) (hm : Move s s' k (arrived f - 1)) {src dst : Memref sig .tc .vmem (chunk k).shape .bf16}
    (hN : dst.view.dmaCredit = N k) (hw : ∀ j f', s j < started f' → f = 0 ∧ f' ≠ 0) {hsrc : src.view.WordExact} {hdst : dst.view.WordExact} :
    Runs c (state X σ c K 6 s) (Prog.lift (.waitDma2 (inSem f k) src dst hsrc hdst)) (fun _ => True) (state X σ c K 6 s') := by
  obtain ⟨q1, q2, q3, q4, q5⟩ := quiet_arrived f
  obtain ⟨a1, a2⟩ := at_arrived f
  unfold Runs state
  rw [leaving_keep X σ c hm q2 q3, beyond_keep σ c hm q2, outcome_keep X σ c hm q5, owed_quiet σ c hm q2]
  iintro ⟨#HR, ⟨%W, HO⟩, HG, HL, HA, HV, HB, HU, HX⟩
  ihave H := (landing_turn X σ c hm f q1) $$ HA
  rw [landing_before X σ c f k a1, landing_after X σ c f k a2]
  icases H with ⟨⟨Hc, Hat⟩, HA⟩
  iapply (Rounds.wp_wait_rest_token 𝒱₀ ER (sched X σ) (c : Thread nD τ) none (κ := K (c, some (true, f, k))) (k := .ret)
      (wpE_waitDma2_eq 𝒱₀ (c : Thread nD τ) none Set.univ) (Set.mem_univ _) () (O := owed σ c 6 s) (W := W) (R := 0) (m := 0) (T := ∅)
      (by rw [Nat.zero_add, expect_in, hN])) $$ [Hc HO Hat]
  · isplitr; · iapply (record_inv X σ K (c, some (true, f, k))); iexact HR
    isplitl [Hc]; · rw [hN]; iexact Hc
    isplitl [HO]; · iexact HO
    isplitr
    · iapply (record_wait (X := X) (K := K) σ c (s := s) 6 (.dma (inSem f k)) (if f = 0 then 2 else 3) (le_of_eq (lv_in c f k))
        (fun p hp => by obtain ⟨h1, h2⟩ := hw p.1 p.2 hp; rw [if_pos h1, if_neg h2]; decide) (fun i hi => absurd i.isLt (by omega))); iexact HR
    iexact Hat
  iintro ⟨HO, Hat, -, Hpay⟩
  ihave Hp := (Entails.of_eq (rest_in X σ c f k)) $$ Hpay
  ihave H := (lending_landed (X := X) (σ := σ) (c := c) f k hm) $$ [Hp HV]
  · isplitl [Hp] <;> iassumption
  icases H with ⟨Hp, HV⟩
  rw [wp_ret]
  imod (Rounds.cell_close ER (sched X σ) (Set.mem_univ (K (c, some (true, f, k)))) (fun h => h) (R := 0 + 1) (duties_later X σ (inCell c f k))) $$ [Hat] with Hz
  · isplitr; · iapply (record_inv X σ K (c, some (true, f, k))); iexact HR
    iexact Hat
  imodintro
  isplitr; · ipureintro; trivial
  isplitr; · iexact HR
  isplitl [HO]; · iexists _; iexact HO
  isplitl [HG]; · iexact HG
  isplitl [HL]; · iexact HL
  isplitl [HA Hp Hz]
  · iapply HA
    isplitl [Hp] <;> iassumption
  isplitl [HV]; · iexact HV
  isplitl [HB]; · iexact HB
  isplitl [HU] <;> iassumption

end Cert.Exchange

end
-- ==== Proof.Exchange.Local.lean ====
/-
The body's own loads and stores, as steps of a device's state.
-/
module

public import proofs.«01_k».proof.Proof.Exchange.Moves

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → S1x1024x1024.Idx → Elt F .bf16} {σ : Equiv.Perm (Fin 4)} {c : Dev nD} {K : Dev nD × Tag → ℕ}
  {b : ℕ} {s s' : Fin 7 → ℕ}

/-- The rows of a block from `row` on, as the body's rectangles name them. -/
abbrev Rows (off : Fin 3 → ℕ) (row : ℕ) : Prop := off = ![0, row, 0]

/-- An index of a rectangle of whole rows is the row and the column it names. -/
theorem rows_emb {off : Fin 3 → ℕ} {row h : ℕ} (hoff : Rows off row) (inb : ∀ a, off a + (![1, h, 1024] : Fin 3 → ℕ) a ≤ S1x1024x1024.size a)
    (j : (Rect.unit (s := S1x1024x1024) off ![1, h, 1024] inb).shape.Idx) :
    (Rect.unit (s := S1x1024x1024) off ![1, h, 1024] inb).emb j = at3 (row + (j 1).val) (j 2).val
      ∧ (((Rect.unit (s := S1x1024x1024) off ![1, h, 1024] inb).emb j) 1).val = row + (j 1).val := by
  subst hoff
  have h1 : row + h ≤ 1024 := inb 1
  have h2 : (j 1).val < h := (j 1).isLt
  have h3 : (j 2).val < 1024 := (j 2).isLt
  have h0 : (j 0).val < 1 := (j 0).isLt
  refine ⟨funext fun a => Fin.ext ?_, ?_⟩
  · match a with
    | ⟨0, _⟩ =>
      show 0 + 1 * (j 0).val = 0
      omega
    | ⟨1, _⟩ =>
      show row + 1 * (j 1).val = (row + (j 1).val) % 1024
      rw [Nat.mod_eq_of_lt (by omega), Nat.one_mul]
    | ⟨2, _⟩ =>
      show 0 + 1 * (j 2).val = (j 2).val % 1024
      rw [Nat.mod_eq_of_lt h3, Nat.one_mul, Nat.zero_add]
  · show row + 1 * (j 1).val = _
    rw [Nat.one_mul]

/-- A load of rows of the operand: the state stays, the value is those rows. -/
theorem load_operand {off : Fin 3 → ℕ} {row h : ℕ} (hoff : Rows off row) {inb : ∀ a, off a + (![1, h, 1024] : Fin 3 → ℕ) a ≤ S1x1024x1024.size a} {hl} :
    Runs c (state X σ c K b s)
      (Prog.lift (.load (Memref.whole cc0_stg0_0 : Memref sig .tc .vmem S1x1024x1024 .bf16) (Rect.unit (s := S1x1024x1024) off ![1, h, 1024] inb).toLoadRect hl))
      (fun v => ∀ j, v j = X c (at3 (row + (j 1).val) (j 2).val)) (state X σ c K b s) := by
  unfold Runs state operands
  iintro ⟨#HR, HO, HG, HL, HA, HV, HB, HU, HX, HP⟩
  iapply (wp_load 𝒱₀ (c : Thread nD τ) none Set.univ (m := (Memref.whole cc0_stg0_0 : Memref sig .tc .vmem S1x1024x1024 .bf16)) (k := .ret) (Finset.subset_univ _)) $$ HX
  iintro HX
  rw [wp_ret]; imodintro
  isplitr
  · ipureintro
    intro j
    rw [← (rows_emb hoff inb j).1]
    rfl
  isplitr; · iexact HR
  isplitl [HO]; · iexact HO
  isplitl [HG]; · iexact HG
  isplitl [HL]; · iexact HL
  isplitl [HA]; · iexact HA
  isplitl [HV]; · iexact HV
  isplitl [HB]; · iexact HB
  isplitl [HU]; · iexact HU
  isplitl [HX] <;> iassumption

/-- A load of the result's buffer whose value is not looked at. -/
theorem load_outcome {r : Rect S1x1024x1024} {hl} :
    Runs c (state X σ c K b s) (Prog.lift (.load (Memref.whole cc0_stg2_0 : Memref sig .tc .vmem S1x1024x1024 .f32) r.toLoadRect hl))
      (fun _ => True) (state X σ c K b s) := by
  unfold Runs state outcome
  iintro ⟨#HR, HO, HG, HL, HA, HV, HB, ⟨%g, %hg, HU⟩, HX⟩
  iapply (wp_load 𝒱₀ (c : Thread nD τ) none Set.univ (m := (Memref.whole cc0_stg2_0 : Memref sig .tc .vmem S1x1024x1024 .f32)) (k := .ret) (Finset.subset_univ _)) $$ HU
  iintro HU
  rw [wp_ret]; imodintro
  isplitr; · ipureintro; trivial
  isplitr; · iexact HR
  isplitl [HO]; · iexact HO
  isplitl [HG]; · iexact HG
  isplitl [HL]; · iexact HL
  isplitl [HA]; · iexact HA
  isplitl [HV]; · iexact HV
  isplitl [HB]; · iexact HB
  isplitl [HU]
  · iexists g
    isplitr; · ipureintro; exact hg
    iexact HU
  iexact HX

omit [FloatOps F] in
theorem lending_blank (k : Fin 7) : lending X σ c 0 0 k = any c (orig 0) k := rfl

/-- A load of a chunk of the send buffer before anything is in it. -/
theorem load_send (k : Fin 7) (hk : s k = 0) {hl} :
    Runs c (state X σ c K b s) (Prog.lift (.load (orig 0) (chunk k).toLoadRect hl)) (fun _ => True) (state X σ c K b s) := by
  unfold Runs state
  iintro ⟨#HR, HO, HG, HL, HA, HV, HB, HU, HX⟩
  ihave H := (all_look (Φ := lending X σ c) (k := k) 0) $$ HV
  rw [hk, lending_blank]
  unfold any
  icases H with ⟨⟨%g, Hv⟩, Hback⟩
  iapply (wp_load_rect 𝒱₀ (c : Thread nD τ) none Set.univ (m := orig 0) (r := chunk k) (k := .ret) (Finset.Subset.refl _)) $$ Hv
  iintro Hv
  rw [wp_ret]; imodintro
  isplitr; · ipureintro; trivial
  isplitr; · iexact HR
  isplitl [HO]; · iexact HO
  isplitl [HG]; · iexact HG
  isplitl [HL]; · iexact HL
  isplitl [HA]; · iexact HA
  isplitl [Hv Hback]
  · iapply Hback
    iexists g
    iexact Hv
  isplitl [HB]; · iexact HB
  isplitl [HU] <;> iassumption

/-- A chunk stored in the send buffer. -/
theorem store_send (k : Fin 7) (hm : Move s s' k 0) {w : (chunk k).shape.Idx → Elt F .bf16} {hx hx'}
    (hw : ∀ j, w j = quarterT X c ((chunk k).emb j)) :
    Runs c (state X σ c K b s) (Prog.lift (.store (orig 0) (chunk k) w Finset.univ hx hx')) (fun _ => True) (state X σ c K b s') := by
  unfold Runs state
  rw [leaving_keep X σ c hm (by decide) (by decide), landing_keep X σ c hm (by decide), beyond_keep σ c hm (by decide),
    owed_quiet σ c hm (by decide), outcome_keep X σ c hm (by decide)]
  iintro ⟨#HR, HO, HG, HL, HA, HV, HB, HU, HX⟩
  ihave H := (lending_turn X σ c hm 0 (by decide) (by decide)) $$ HV
  rw [lending_blank]
  unfold any
  icases H with ⟨⟨%g, Hv⟩, Hback⟩
  iapply (wp_store 𝒱₀ (c : Thread nD τ) none Set.univ (m := orig 0) (r := chunk k) (Mk := Finset.univ) (k := .ret)
    (S := (part (orig 0) k).view.set) (f := g) (Finset.Subset.refl _)) $$ Hv
  iintro Hv
  rw [wp_ret]; imodintro
  isplitr; · ipureintro; trivial
  isplitr; · iexact HR
  isplitl [HO]; · iexact HO
  isplitl [HG]; · iexact HG
  isplitl [HL]; · iexact HL
  isplitl [HA]; · iexact HA
  isplitl [Hv Hback]
  · iapply Hback
    rw [lending_ready X σ c 0 k (by decide) (by decide)]
    unfold win
    iexists (((orig 0).access (chunk k)).write (Elt F) g w Finset.univ)
    isplitr
    · ipureintro
      exact fun i => (View.read_slice_write_emb _ _ _ (Finset.mem_univ i)).trans (hw i)
    · iexact Hv
  isplitl [HB]; · iexact HB
  isplitl [HU] <;> iassumption

/-- A chunk of a landing buffer loaded: what the copy brought. -/
theorem load_landed (f : Fin 4) (k : Fin 7) (hk : arrived f ≤ s k) {hl} :
    Runs c (state X σ c K b s) (Prog.lift (.load (buf f) (chunk k).toLoadRect hl))
      (fun v => ∀ j, v j = brought X σ f c ((chunk k).emb j)) (state X σ c K b s) := by
  unfold Runs state
  iintro ⟨#HR, HO, HG, HL, HA, HV, HB, HU, HX⟩
  ihave H := (all_look (Φ := landing X σ c) (k := k) f) $$ HA
  rw [landing_after X σ c f k (by omega)]
  unfold win
  icases H with ⟨⟨⟨%g, %hg, Hv⟩, Hz⟩, Hback⟩
  iapply (wp_load_rect 𝒱₀ (c : Thread nD τ) none Set.univ (m := buf f) (r := chunk k) (k := .ret) (Finset.Subset.refl _)) $$ Hv
  iintro Hv
  rw [wp_ret]; imodintro
  isplitr; · ipureintro; exact hg
  isplitr; · iexact HR
  isplitl [HO]; · iexact HO
  isplitl [HG]; · iexact HG
  isplitl [HL]; · iexact HL
  isplitl [Hv Hz Hback]
  · iapply Hback
    isplitl [Hv]
    · iexists g
      isplitr; · ipureintro; exact hg
      iexact Hv
    · iexact Hz
  isplitl [HV]; · iexact HV
  isplitl [HB]; · iexact HB
  isplitl [HU] <;> iassumption

omit [FloatOps F] in
theorem brought_eq (f : Fin 4) : brought X σ f c = quarterT X (src σ (owner f c)) := by fin_cases f <;> rfl

theorem origin_owner (f : Fin 4) (i : ℕ) (hi : i / 256 = quarter (owner f c)) : origin σ c i = src σ (owner f c) := by
  fin_cases f
  · exact origin_own σ c i hi
  · exact (origin_peer σ 0 c i).symm.trans (origin_own σ _ i hi)
  · exact (origin_peer σ 1 c i).symm.trans (origin_own σ _ i hi)
  · exact (origin_peer σ 2 c i).symm.trans (origin_own σ _ i hi)

theorem chunk_le (k : Fin 7) : first k + height k ≤ 256 := by revert k; decide

/-- What a kind's copy brought is the result at the rows it belongs to. -/
theorem result_at (f : Fin 4) (k : Fin 7) {off : Fin 3 → ℕ} (hoff : Rows off (quarter (owner f c) * 256 + first k))
    (inb : ∀ a, off a + (![1, height k, 1024] : Fin 3 → ℕ) a ≤ S1x1024x1024.size a)
    (j : (Rect.unit (s := S1x1024x1024) off ![1, height k, 1024] inb).shape.Idx) (j' : (chunk k).shape.Idx) (hj : ∀ a, (j' a).val = (j a.succ).val) :
    result X σ c ((Rect.unit (s := S1x1024x1024) off ![1, height k, 1024] inb).emb j)
      = FloatOps.extf .f32 (by decide) (brought X σ f c ((chunk k).emb j')) := by
  obtain ⟨h1, h2⟩ := rows_emb hoff inb j
  have h3 := chunk_le k
  have h4 : (j 1).val < height k := (j 1).isLt
  unfold result
  rw [h2, origin_owner f _ (by omega), h1, brought_eq]
  unfold quarterT
  rw [quarter_src]
  have e0 : (((chunk k).emb j') 0).val = first k + (j 1).val := by
    rw [← show (j' 0).val = (j 1).val from hj 0]
    show first k + 1 * (j' 0).val = _
    rw [Nat.one_mul]
  have e1 : (((chunk k).emb j') 1).val = (j 2).val := by
    rw [← show (j' 1).val = (j 2).val from hj 1]
    show 0 + 1 * (j' 1).val = _
    rw [Nat.one_mul, Nat.zero_add]
  rw [e0, e1, Nat.add_assoc]

/-- Every index among a rectangle's rows is one of its indices. -/
theorem rows_mem {off : Fin 3 → ℕ} {row h : ℕ} (hoff : Rows off row) (inb : ∀ a, off a + (![1, h, 1024] : Fin 3 → ℕ) a ≤ S1x1024x1024.size a)
    (i : S1x1024x1024.Idx) (hi : row ≤ (i 1).val ∧ (i 1).val < row + h) :
    ∃ j : (Rect.unit (s := S1x1024x1024) off ![1, h, 1024] inb).shape.Idx, (Rect.unit (s := S1x1024x1024) off ![1, h, 1024] inb).emb j = i := by
  subst hoff
  have h0 : (i 0).val < 1 := (i 0).isLt
  refine ⟨Fin.cons (⟨(i 0).val, h0⟩ : Fin 1) (Fin.cons (⟨(i 1).val - row, by omega⟩ : Fin h) (Fin.cons (⟨(i 2).val, (i 2).isLt⟩ : Fin 1024) fun a => a.elim0)),
    funext fun a => Fin.ext ?_⟩
  match a with
  | ⟨0, _⟩ => exact (Nat.zero_add _).trans (Nat.one_mul _)
  | ⟨1, _⟩ =>
    show row + 1 * ((i 1).val - row) = (i 1).val
    omega
  | ⟨2, _⟩ => exact (Nat.zero_add _).trans (Nat.one_mul _)

/-- The view of the result's buffer. -/
abbrev outV : View sig .tc .vmem S1x1024x1024 .f32 := (Memref.whole cc0_stg2_0 : Memref sig .tc .vmem S1x1024x1024 .f32).view

theorem stored_step : ∀ f f' : Fin 4, f' ≠ f → stored f' ≤ stored f - 1 + 1 → stored f' ≤ stored f - 1 := by decide

omit [FloatOps F] in
/-- Outside the rows written, the result's buffer is what it was. -/
theorem unwritten {off : Fin 3 → ℕ} {row h : ℕ} (hoff : Rows off row) {inb : ∀ a, off a + (![1, h, 1024] : Fin 3 → ℕ) a ≤ S1x1024x1024.size a}
    (g : outV.ty.Contents (Elt F)) (w : (Rect.unit (s := S1x1024x1024) off ![1, h, 1024] inb).shape.Idx → Elt F .f32)
    (i : S1x1024x1024.Idx) (hi : ¬ (row ≤ (i 1).val ∧ (i 1).val < row + h)) :
    outV.read (Elt F) ((outV.slice (Rect.unit (s := S1x1024x1024) off ![1, h, 1024] inb)).write (Elt F) g w Finset.univ) i = outV.read (Elt F) g i := by
  refine View.read_slice_write_of_not_mem (v := outV) _ g w Finset.univ fun hmem => hi ?_
  obtain ⟨j, -, rfl⟩ := Finset.mem_map.mp hmem
  have h2 : (j 1).val < h := (j 1).isLt
  have := (rows_emb hoff inb j).2
  exact ⟨by omega, by omega⟩

/-- The result's buffer after a store of the rows a kind's copy brought. -/
theorem outcome_written (f : Fin 4) (k : Fin 7) (hm : Move s s' k (stored f - 1)) {off : Fin 3 → ℕ}
    (hoff : Rows off (quarter (owner f c) * 256 + first k))
    {inb : ∀ a, off a + (![1, height k, 1024] : Fin 3 → ℕ) a ≤ S1x1024x1024.size a}
    {w : (Rect.unit (s := S1x1024x1024) off ![1, height k, 1024] inb).shape.Idx → Elt F .f32}
    (hw : ∀ j (j' : (chunk k).shape.Idx), (∀ a, (j' a).val = (j a.succ).val) → w j = FloatOps.extf .f32 (by decide) (brought X σ f c ((chunk k).emb j')))
    (g : (cc0_stg2_0 : Ref sig .tc).ty.Contents (Elt F))
    (hg : ∀ f k, stored f ≤ s k → ∀ i : S1x1024x1024.Idx, rowsOf c f k (i 1).val → g i = result X σ c i) :
    ∀ f' k', stored f' ≤ s' k' → ∀ i : S1x1024x1024.Idx, rowsOf c f' k' (i 1).val →
      outV.read (Elt F) ((outV.slice (Rect.unit (s := S1x1024x1024) off ![1, height k, 1024] inb)).write (Elt F) g w Finset.univ) i = result X σ c i := by
  intro f' k' hs i hi
  by_cases hr : rowsOf c f k (i 1).val
  · obtain ⟨j, rfl⟩ := rows_mem hoff inb i hr
    have hj := result_at (X := X) (σ := σ) f k hoff inb j (fun a => j a.succ) fun a => rfl
    rw [hj, ← hw j (fun a => j a.succ) fun a => rfl]
    exact View.read_slice_write_emb (v := outV) (Rect.unit (s := S1x1024x1024) off ![1, height k, 1024] inb) g w (Finset.mem_univ j)
  · have hne : stored f' ≤ s k' := by
      by_cases hk : k' = k
      · subst hk
        rw [hm.2.2] at hs
        rw [hm.2.1]
        exact stored_step f f' (fun h => hr (h ▸ hi)) hs
      · rwa [hm.1 k' hk] at hs
    exact (unwritten hoff g w i hr).trans (hg f' k' hne i hi)

theorem quiet_stored (f : Fin 4) : Quiet started (stored f - 1) (fun _ => False) ∧ Quiet ended (stored f - 1) (fun _ => False)
    ∧ Quiet arrived (stored f - 1) (fun _ => False) ∧ Quiet ready (stored f - 1) (fun _ => False) := by revert f; decide

/-- The rows a kind's copy brought, stored in the result. -/
theorem store_outcome (f : Fin 4) (k : Fin 7) (hm : Move s s' k (stored f - 1)) {off : Fin 3 → ℕ}
    (hoff : Rows off (quarter (owner f c) * 256 + first k))
    {inb : ∀ a, off a + (![1, height k, 1024] : Fin 3 → ℕ) a ≤ S1x1024x1024.size a}
    {w : (Rect.unit (s := S1x1024x1024) off ![1, height k, 1024] inb).shape.Idx → Elt F .f32} {hx hx'}
    (hw : ∀ j (j' : (chunk k).shape.Idx), (∀ a, (j' a).val = (j a.succ).val) → w j = FloatOps.extf .f32 (by decide) (brought X σ f c ((chunk k).emb j'))) :
    Runs c (state X σ c K b s)
      (Prog.lift (.store (Memref.whole cc0_stg2_0 : Memref sig .tc .vmem S1x1024x1024 .f32) (Rect.unit (s := S1x1024x1024) off ![1, height k, 1024] inb) w Finset.univ hx hx'))
      (fun _ => True) (state X σ c K b s') := by
  obtain ⟨q1, q2, q3, q4⟩ := quiet_stored f
  unfold Runs state
  rw [leaving_keep X σ c hm q1 q2, landing_keep X σ c hm q3, lending_keep X σ c hm q1 q4, beyond_keep σ c hm q1, owed_quiet σ c hm q1]
  unfold outcome
  iintro ⟨#HR, HO, HG, HL, HA, HV, HB, ⟨%g, %hg, HU⟩, HX⟩
  iapply (wp_store 𝒱₀ (c : Thread nD τ) none Set.univ (m := (Memref.whole cc0_stg2_0 : Memref sig .tc .vmem S1x1024x1024 .f32))
    (r := Rect.unit (s := S1x1024x1024) off ![1, height k, 1024] inb) (Mk := Finset.univ) (k := .ret) (S := Finset.univ) (f := g) (Finset.subset_univ _)) $$ HU
  iintro HU
  rw [wp_ret]; imodintro
  isplitr; · ipureintro; trivial
  isplitr; · iexact HR
  isplitl [HO]; · iexact HO
  isplitl [HG]; · iexact HG
  isplitl [HL]; · iexact HL
  isplitl [HA]; · iexact HA
  isplitl [HV]; · iexact HV
  isplitl [HB]; · iexact HB
  isplitl [HU]
  · iexists ((outV.slice (Rect.unit (s := S1x1024x1024) off ![1, height k, 1024] inb)).write (Elt F) g w Finset.univ)
    isplitr
    · ipureintro
      exact outcome_written f k hm hoff hw g hg
    · iexact HU
  iexact HX

end Cert.Exchange

end
-- ==== Proof.Exchange.Steps.lean ====
/-
The steps of the body in the shape its text has them: each names the chunk it is about, and the chunk's phase goes up
by one.
-/
module

public import proofs.«01_k».proof.Proof.Exchange.Comm
public import proofs.«01_k».proof.Proof.Exchange.Local
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → S1x1024x1024.Idx → Elt F .bf16} {σ : Equiv.Perm (Fin 4)} {c : Dev nD} {K : Dev nD × Tag → ℕ}
  {b : ℕ} {s s' : Fin 7 → ℕ}

/-- The phases with chunk `k` one further. -/
abbrev up (s : Fin 7 → ℕ) (k : Fin 7) : Fin 7 → ℕ := Function.update s k (s k + 1)

theorem move_up {k : Fin 7} {n : ℕ} (h : s k = n) : Move s (up s k) k n :=
  ⟨fun j hj => Function.update_of_ne hj _ _, h, by rw [up, Function.update_self, h]⟩

/-- A run that ends in phases written another way. -/
theorem Runs.settle {α : Type} {P : sProp 𝕄} {p : Prog (TpuEff nD τ sig (Elt F) Λ₀ .tc) α} {φ : α → Prop}
    (h : Runs c P p φ (state X σ c K b s)) (e : s = s') : Runs c P p φ (state X σ c K b s') := e ▸ h

/-! ## The body's own reads of the words -/

theorem read_device : Runs c (state X σ c K b s) (Prog.lift (.deviceId : TpuEff nD τ sig (Elt F) Λ₀ .tc (Dev nD))) (fun v => v = c) (state X σ c K b s) := by
  unfold Runs
  iintro H
  rw [show (Prog.lift (.deviceId : TpuEff nD τ sig (Elt F) Λ₀ .tc (Dev nD))) = .op .deviceId .ret from rfl, wp_deviceId, wp_ret]
  imodintro
  isplitr; · ipureintro; rfl
  iexact H

theorem assumed {A : Prop} {d : Decidable A} (h : A) :
    Runs c (state X σ c K b s) (Prog.lift (.assume A d : TpuEff nD τ sig (Elt F) Λ₀ .tc (PLift A))) (fun _ => True) (state X σ c K b s) := by
  unfold Runs
  iintro H
  iapply (wp_assume 𝒱₀ (c : Thread nD τ) none Set.univ (k := .ret) h)
  rw [wp_ret]
  imodintro
  isplitr; · ipureintro; trivial
  iexact H

/-- A word of the permutation. -/
theorem load_word {off : Fin 1 → ℕ} (i : Fin 4) (hoff : off 0 = i.val) {inb : ∀ a, off a + S1.size a ≤ S4.size a} {h1 hp} :
    Runs c (state X σ c K b s) (smemLoad (Memref.whole cc0_stg1_0 : Memref sig .tc .smem S4 .i32) (Rect.unit (s := S4) off S1.size inb) h1 hp)
      (fun v => v = BitVec.ofNat 32 (σ i).val) (state X σ c K b s) := by
  unfold Runs state operands smemLoad
  iintro ⟨#HR, HO, HG, HL, HA, HV, HB, HU, HX, HP⟩
  iapply (wp_smemLoadElt 𝒱₀ (c : Thread nD τ) none Set.univ (m := (Memref.whole cc0_stg1_0 : Memref sig .tc .smem S4 .i32)) (r := Rect.unit (s := S4) off S1.size inb)
    (k := .ret) (S := Finset.univ) (f := words σ) (Finset.subset_univ _)) $$ HP
  iintro HP
  rw [wp_ret]; imodintro
  isplitr
  · ipureintro
    show words σ ((Rect.unit (s := S4) off S1.size inb).emb _) = _
    unfold words
    congr 3
    refine Fin.ext ?_
    show off 0 + 1 * _ = i.val
    rw [hoff]
    have := (Shape.Idx.first (s := (Rect.unit (s := S4) off S1.size inb).shape) (h1.symm ▸ Nat.one_pos) 0).isLt
    have h2 : (Rect.unit (s := S4) off S1.size inb).shape.size 0 = 1 := rfl
    omega
  isplitr; · iexact HR
  isplitl [HO]; · iexact HO
  isplitl [HG]; · iexact HG
  isplitl [HL]; · iexact HL
  isplitl [HA]; · iexact HA
  isplitl [HV]; · iexact HV
  isplitl [HB]; · iexact HB
  isplitl [HU]; · iexact HU
  isplitl [HX] <;> iassumption

theorem off1_place (c : Dev nD) : k0_off1 c 0 = (place c).val := by revert c; decide +kernel

/-! ## The send buffer -/

/-- A block of rows of the operand as the body stores it in the send buffer. -/
theorem sent_value (k : Fin 7) {v : Vec F ⟨3, ![1, height k, 1024]⟩ .bf16}
    (hv : ∀ j, v j = X c (at3 (quarter c * 256 + first k + (j 1).val) (j 2).val)) (hc : (⟨3, ![1, height k, 1024]⟩ : Shape).ShapeCasts (chunk k).shape)
    (j : (chunk k).shape.Idx) : shapeCast (chunk k).shape v hc j = quarterT X c ((chunk k).emb j) := by
  have h := shapeCast_dropUnit_apply (n := 2) ![height k, 1024] v hc j
  have e : v (Fin.cons ⟨0, Nat.one_pos⟩ j) = X c (at3 (quarter c * 256 + first k + (j 0).val) (j 1).val) := hv (Fin.cons ⟨0, Nat.one_pos⟩ j)
  have e0 : (((chunk k).emb j) 0).val = first k + (j 0).val := by
    show first k + 1 * (j 0).val = _
    rw [Nat.one_mul]
  have e1 : (((chunk k).emb j) 1).val = (j 1).val := by
    show 0 + 1 * (j 1).val = _
    rw [Nat.one_mul, Nat.zero_add]
  refine h.trans (e.trans ?_)
  unfold quarterT
  rw [e0, e1, Nat.add_assoc]

/-- A chunk of the operand stored in the send buffer. -/
theorem send (k : Fin 7) (hs : s k = 0) {v : Vec F ⟨3, ![1, height k, 1024]⟩ .bf16}
    (hv : ∀ j, v j = X c (at3 (quarter c * 256 + first k + (j 1).val) (j 2).val)) {hc hc' hx hx'} :
    Runs c (state X σ c K b s) (Prog.lift (.store (orig 0) (chunk k) (shapeCast (chunk k).shape (shapeCast (chunk k).shape v hc) hc') Finset.univ hx hx'))
      (fun _ => True) (state X σ c K b (up s k)) :=
  store_send k (move_up hs) fun j => (congrFun (shapeCast_self _ hc') j).trans (sent_value k hv hc j)

/-- A copy along `z`. -/
theorem copy_z (k : Fin 7) (hs : s k = 1) {n : Dev nD} (hn : n.val = (along c (σ (place c))).val) {hsc hsrc hdst hsem} :
    Runs c (state X σ c K 6 s)
      (Prog.lift (.enqueueDma (part (orig 0) k) (.remote (Dev.tc n : Thread nD τ) (part (buf 0) k) (.dma (outSem 0 k)) hsc) (.dma (inSem 0 k)) hsrc hdst hsem))
      (fun _ => True) (state X σ c K 6 (up s k)) :=
  start_copy 0 k (move_up hs) (Fin.ext hn)

/-! ## The result -/

/-- The rows a kind's copy brought, as the body stores them in the result. -/
theorem keep (f : Fin 4) (k : Fin 7) (hs : s k = stored f - 1) {off : Fin 3 → ℕ} (hoff : Rows off (quarter (owner f c) * 256 + first k))
    {inb : ∀ a, off a + (![1, height k, 1024] : Fin 3 → ℕ) a ≤ S1x1024x1024.size a} {v : Vec F (chunk k).shape .bf16}
    (hv : ∀ j, v j = brought X σ f c ((chunk k).emb j)) {hb hc hx hx'} :
    Runs c (state X σ c K b s)
      (Prog.lift (.store (Memref.whole cc0_stg2_0 : Memref sig .tc .vmem S1x1024x1024 .f32) (Rect.unit (s := S1x1024x1024) off ![1, height k, 1024] inb)
        (shapeCast ⟨3, ![1, height k, 1024]⟩ (extf .f32 v hb) hc) Finset.univ hx hx'))
      (fun _ => True) (state X σ c K b (up s k)) :=
  store_outcome f k (move_up hs) hoff fun j j' hj => by
    have h := shapeCast_addUnit_apply (n := 2) ![height k, 1024] (extf .f32 v hb) hc j
    have e : (fun a => j a.succ : (chunk k).shape.Idx) = j' := funext fun a => Fin.ext (hj a).symm
    exact h.trans ((congrArg (fun i => FloatOps.extf .f32 hb (v i)) e).trans (congrArg (FloatOps.extf .f32 hb) (hv j')))

/-- The same with the widening done before. -/
theorem keep_wide (f : Fin 4) (k : Fin 7) (hs : s k = stored f - 1) {off : Fin 3 → ℕ} (hoff : Rows off (quarter (owner f c) * 256 + first k))
    {inb : ∀ a, off a + (![1, height k, 1024] : Fin 3 → ℕ) a ≤ S1x1024x1024.size a} {w : Vec F (chunk k).shape .f32}
    (hw : ∀ j, w j = FloatOps.extf .f32 (by decide) (brought X σ f c ((chunk k).emb j))) {hc hx hx'} :
    Runs c (state X σ c K b s)
      (Prog.lift (.store (Memref.whole cc0_stg2_0 : Memref sig .tc .vmem S1x1024x1024 .f32) (Rect.unit (s := S1x1024x1024) off ![1, height k, 1024] inb)
        (shapeCast ⟨3, ![1, height k, 1024]⟩ w hc) Finset.univ hx hx'))
      (fun _ => True) (state X σ c K b (up s k)) :=
  store_outcome f k (move_up hs) hoff fun j j' hj => by
    have h := shapeCast_addUnit_apply (n := 2) ![height k, 1024] w hc j
    have e : (fun a => j a.succ : (chunk k).shape.Idx) = j' := funext fun a => Fin.ext (hj a).symm
    exact h.trans ((congrArg w e).trans (hw j'))

end Cert.Exchange

end
-- ==== Proof.Exchange.Send.lean ====
/-
The body's first half of sending: the words of the permutation, the signals at entry, the chunks stored in the send
buffer and their copies along `z`.
-/
module

public import proofs.«01_k».proof.Proof.Exchange.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → S1x1024x1024.Idx → Elt F .bf16} {σ : Equiv.Perm (Fin 4)} {c : Dev nD} {K : Dev nD × Tag → ℕ}
  {b : ℕ} {s s' : Fin 7 → ℕ}

/-! ## What the body is given -/

abbrev xM : Memref sig .tc .vmem S1x1024x1024 .bf16 := Memref.whole cc0_stg0_0
abbrev piM : Memref sig .tc .smem S4 .i32 := Memref.whole cc0_stg1_0
abbrev oM : Memref sig .tc .vmem S1x1024x1024 .f32 := Memref.whole cc0_stg2_0
abbrev sM : Memref sig .tc .vmem S256x1024 .bf16 := Memref.whole cc0_scratch0
abbrev zM : Memref sig .tc .vmem S256x1024 .bf16 := Memref.whole cc0_scratch1
abbrev xqM : Memref sig .tc .vmem S256x1024 .bf16 := Memref.whole cc0_scratch2
abbrev yqM : Memref sig .tc .vmem S256x1024 .bf16 := Memref.whole cc0_scratch3
abbrev dqM : Memref sig .tc .vmem S256x1024 .bf16 := Memref.whole cc0_scratch4

variable {hx : xM.IsWhole} {hp : piM.IsWhole} {ho : oM.IsWhole} {hs : sM.IsWhole} {hz : zM.IsWhole} {hxq : xqM.IsWhole} {hyq : yqM.IsWhole} {hdq : dqM.IsWhole}

/-! ## The parts -/

theorem part1 : Runs c (state X σ c K b s)
    (k0_part1 (F := F) xM hx piM hp oM ho sM hs zM hz xqM hxq yqM hyq dqM hdq cc0_scratch5 cc0_scratch6 cc0_scratch7 cc0_scratch8 cc0_scratch9 cc0_scratch10 cc0_scratch11 cc0_scratch12)
    (fun r => r.1 = c ∧ r.2.2.2.2.1 = BitVec.ofNat 32 (σ (place c)).val ∧ r.2.2.2.2.2.2.1 = BitVec.ofNat 32 (σ 0).val
      ∧ r.2.2.2.2.2.2.2.1 = BitVec.ofNat 32 (σ 1).val ∧ r.2.2.2.2.2.2.2.2.1 = BitVec.ofNat 32 (σ 2).val ∧ r.2.2.2.2.2.2.2.2.2.1 = BitVec.ofNat 32 (σ 3).val)
    (state X σ c K b s) := by
  rw [k0_part1_eq_skeleton]
  unfold k0_part1_skel
  refine Runs.bind read_device fun d hd => ?_
  subst hd
  refine Runs.bind (load_word (place d) (off1_place d)) fun v10 h10 => ?_
  refine Runs.bind (assumed (h10 ▸ chk_z d _)) fun w2 _ => ?_
  refine Runs.bind (load_word 0 rfl) fun v11 h11 => ?_
  refine Runs.bind (load_word 1 rfl) fun v14 h14 => ?_
  refine Runs.bind (load_word 2 rfl) fun v17 h17 => ?_
  refine Runs.bind (load_word 3 rfl) fun v20 h20 => ?_
  refine Runs.bind (assumed (k0_chk1_all d v11 v14 v17 v20)) fun w1 _ => ?_
  exact Runs.ret ⟨rfl, h10, h11, h14, h17, h20⟩

theorem part2 {v2 v5 v22 v24 v27 v32 v33} {v11 v14 v17 v20 : Elt F .i32} {w1 : k0_chk1 c v11 v14 v17 v20}
    (h11 : v11 = BitVec.ofNat 32 (σ 0).val) (h14 : v14 = BitVec.ofNat 32 (σ 1).val) (h17 : v17 = BitVec.ofNat 32 (σ 2).val) (h20 : v20 = BitVec.ofNat 32 (σ 3).val) :
    Runs c (state X σ c K 0 ![0, 0, 0, 0, 0, 0, 0])
    (k0_part2 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v11 v14 v17 v20 w1 v22 v24 v27 v32 v33)
    (fun r => r.2.2.2.1 = SemArray.scalar (sig.barrier 0 rfl)) (state X σ c K 1 ![1, 0, 0, 0, 0, 0, 0]) := by
  subst h11 h14 h17 h20
  rw [k0_part2_eq_skeleton]
  unfold k0_part2_skel
  refine Runs.bind (load_operand (row := quarter c * 256 + first 0) (off2_row c)) fun v52 h52 => ?_
  refine Runs.bind (load_send 0 rfl) fun _ _ => ?_
  refine Runs.bind (send 0 rfl h52) fun _ _ => ?_
  refine Runs.bind (signal 0 (Fin.ext (dev_src σ c))) fun _ _ => ?_
  exact (Runs.ret rfl).settle (by decide)

theorem part3 {v2 v5 v8 v23 v36 v67 c1} {v10 : Elt F .i32} {w2 : k0_chk2 c v10} (h10 : v10 = BitVec.ofNat 32 (σ (place c)).val) {v57}
    (h57 : v57 = SemArray.scalar (sig.barrier 0 rfl)) :
    Runs c (state X σ c K 1 ![1, 0, 0, 0, 0, 0, 0])
    (k0_part3 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v10 w2 v23 v36 v57 v67 c1)
    (fun _ => True) (state X σ c K 6 ![1, 0, 0, 0, 0, 0, 0]) := by
  subst h10 h57
  rw [k0_part3_eq_skeleton]
  unfold k0_part3_skel
  refine Runs.bind (signal 1 (Fin.ext (dev_z c _).1)) fun _ _ => ?_
  refine Runs.bind (signal 2 (Fin.ext (dev_x c).1)) fun _ _ => ?_
  refine Runs.bind (signal 3 (Fin.ext (dev_y c).1)) fun _ _ => ?_
  refine Runs.bind (signal 4 (Fin.ext (dev_d c).1)) fun _ _ => ?_
  refine Runs.bind (wait_entry (by decide)) fun _ _ => ?_
  exact Runs.ret trivial

theorem part4 {v2 v5 v49} {v10 : Elt F .i32} {w2 : k0_chk2 c v10} (h10 : v10 = BitVec.ofNat 32 (σ (place c)).val) :
    Runs c (state X σ c K 6 ![1, 0, 0, 0, 0, 0, 0])
    (k0_part4 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v10 w2 v49)
    (fun _ => True) (state X σ c K 6 ![2, 2, 1, 0, 0, 0, 0]) := by
  subst h10
  rw [k0_part4_eq_skeleton]
  unfold k0_part4_skel
  refine Runs.bind (copy_z 0 rfl (dev_z c _).2.1) fun _ _ => ?_
  refine Runs.bind (load_operand (off3_row c 0)) fun v102 h102 => ?_
  refine Runs.bind (load_send 1 rfl) fun _ _ => ?_
  refine Runs.bind (send 1 rfl h102) fun _ _ => ?_
  refine Runs.bind (copy_z 1 rfl (dev_z c _).2.2.1) fun _ _ => ?_
  refine Runs.bind (load_operand (off4_row c)) fun v121 h121 => ?_
  refine Runs.bind (load_send 2 rfl) fun _ _ => ?_
  refine Runs.bind (send 2 rfl h121) fun _ _ => ?_
  exact (Runs.ret trivial).settle (by decide)

theorem part5 {v2 v5 v49 v127} {v10 : Elt F .i32} {w2 : k0_chk2 c v10} (h10 : v10 = BitVec.ofNat 32 (σ (place c)).val) :
    Runs c (state X σ c K 6 ![2, 2, 1, 0, 0, 0, 0])
    (k0_part5 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v10 w2 v49 v127)
    (fun r => ∃ v : Vec F S1x32x1024 .bf16, (∀ j, v j = X c (at3 (quarter c * 256 + first 4 + (j 1).val) (j 2).val)) ∧ r = k0_pay5 v) (state X σ c K 6 ![2, 2, 2, 2, 0, 0, 0]) := by
  subst h10
  rw [k0_part5_eq_skeleton]
  unfold k0_part5_skel
  refine Runs.bind (copy_z 2 rfl (dev_z c _).2.2.2.1) fun _ _ => ?_
  refine Runs.bind (load_operand (off3_row c 1)) fun v140 hv140 => ?_
  refine Runs.bind (load_send 3 rfl) fun _ _ => ?_
  refine Runs.bind (send 3 rfl hv140) fun _ _ => ?_
  refine Runs.bind (copy_z 3 rfl (dev_z c _).2.2.2.2.1) fun _ _ => ?_
  refine Runs.bind (load_operand (off5_row c 1)) fun v159 hv159 => ?_
  exact (Runs.ret ⟨v159, hv159, rfl⟩).settle (by decide)

theorem part6 {v2 v5 v49} {v10 : Elt F .i32} {w2 : k0_chk2 c v10} (h10 : v10 = BitVec.ofNat 32 (σ (place c)).val) {v : Vec F S1x32x1024 .bf16}
    (hv : ∀ j, v j = X c (at3 (quarter c * 256 + first 4 + (j 1).val) (j 2).val)) :
    Runs c (state X σ c K 6 ![2, 2, 2, 2, 0, 0, 0])
    (k0_part6 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v10 w2 v49 (k0_pay5 v))
    (fun _ => True) (state X σ c K 6 ![2, 2, 2, 2, 2, 1, 0]) := by
  subst h10
  rw [k0_part6_eq_skeleton]
  unfold k0_part6_skel
  refine Runs.bind (load_send 4 rfl) fun _ _ => ?_
  refine Runs.bind (send 4 rfl hv) fun _ _ => ?_
  refine Runs.bind (copy_z 4 rfl (dev_z c _).2.2.2.2.2.1) fun _ _ => ?_
  refine Runs.bind (load_operand (off6_row c 0)) fun v178 hv178 => ?_
  refine Runs.bind (load_send 5 rfl) fun _ _ => ?_
  refine Runs.bind (send 5 rfl hv178) fun _ _ => ?_
  exact (Runs.ret trivial).settle (by decide)

theorem part7 {v2 v5 v49} {v10 : Elt F .i32} {w2 : k0_chk2 c v10} (h10 : v10 = BitVec.ofNat 32 (σ (place c)).val) :
    Runs c (state X σ c K 6 ![2, 2, 2, 2, 2, 1, 0])
    (k0_part7 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v10 w2 v49)
    (fun _ => True) (state X σ c K 6 ![2, 2, 2, 2, 2, 2, 2]) := by
  subst h10
  rw [k0_part7_eq_skeleton]
  unfold k0_part7_skel
  refine Runs.bind (copy_z 5 rfl (dev_z c _).2.2.2.2.2.2.1) fun _ _ => ?_
  refine Runs.bind (load_operand (off6_row c 1)) fun v197 hv197 => ?_
  refine Runs.bind (load_send 6 rfl) fun _ _ => ?_
  refine Runs.bind (send 6 rfl hv197) fun _ _ => ?_
  refine Runs.bind (copy_z 6 rfl (dev_z c _).2.2.2.2.2.2.2) fun _ _ => ?_
  exact (Runs.ret trivial).settle (by decide)

end Cert.Exchange

end
-- ==== Proof.Exchange.Forward.lean ====
/-
The middle of the body: each chunk that landed along `z` is copied on to the three peers and stored in the result.
-/
module

public import proofs.«01_k».proof.Proof.Exchange.Send

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → S1x1024x1024.Idx → Elt F .bf16} {σ : Equiv.Perm (Fin 4)} {c : Dev nD} {K : Dev nD × Tag → ℕ}
  {b : ℕ} {s s' : Fin 7 → ℕ}

variable {hx : xM.IsWhole} {hp : piM.IsWhole} {ho : oM.IsWhole} {hs : sM.IsWhole} {hz : zM.IsWhole} {hxq : xqM.IsWhole} {hyq : yqM.IsWhole} {hdq : dqM.IsWhole}

theorem part8 {v2 v5 v8 v23 v36} :
    Runs c (state X σ c K 6 ![2, 2, 2, 2, 2, 2, 2])
    (k0_part8 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v23 v36)
    (fun _ => True) (state X σ c K 6 ![5, 2, 2, 2, 2, 2, 2]) := by
  rw [k0_part8_eq_skeleton]
  unfold k0_part8_skel
  refine Runs.bind (wait_landed 0 0 (move_up rfl) (N_buf 0 0) (by decide)) fun _ _ => ?_
  refine Runs.bind (start_copy 1 0 (move_up rfl) (Fin.ext (dev_x c).2.1)) fun _ _ => ?_
  refine Runs.bind (start_copy 2 0 (move_up rfl) (Fin.ext (dev_y c).2.1)) fun _ _ => ?_
  exact (Runs.ret trivial).settle (by decide)

theorem part9 {v2 v5 v8 v23 v49} {v10 : Elt F .i32} :
    Runs c (state X σ c K 6 ![5, 2, 2, 2, 2, 2, 2])
    (k0_part9 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v10 v23 v49)
    (fun _ => True) (state X σ c K 6 ![7, 3, 2, 2, 2, 2, 2]) := by
  rw [k0_part9_eq_skeleton]
  unfold k0_part9_skel
  refine Runs.bind (start_copy 3 0 (move_up rfl) (Fin.ext (dev_d c).2.1)) fun _ _ => ?_
  refine Runs.bind (load_landed 0 0 (by decide)) fun v hv => ?_
  refine Runs.bind (load_outcome) fun _ _ => ?_
  refine Runs.bind (keep 0 0 rfl (off5_row c 0) hv) fun _ _ => ?_
  refine Runs.bind (wait_landed 0 1 (move_up rfl) (N_buf 0 1) (by decide)) fun _ _ => ?_
  exact (Runs.ret trivial).settle (by decide)

theorem part10 {v2 v8 v23 v36 v49} :
    Runs c (state X σ c K 6 ![7, 3, 2, 2, 2, 2, 2])
    (k0_part10 (F := F) xM hx piM hp oM ho sM hs zM hz xqM hxq yqM hyq dqM hdq cc0_scratch5 cc0_scratch6 cc0_scratch7 cc0_scratch8 cc0_scratch9 cc0_scratch10 cc0_scratch11 cc0_scratch12
      c v2 v8 v23 v36 v49)
    (fun r => ∃ v : Vec F S48x1024 .bf16, (∀ j, v j = brought X σ 0 c ((chunk 1).emb j)) ∧ r.1 = k0_pay10 v) (state X σ c K 6 ![7, 6, 2, 2, 2, 2, 2]) := by
  rw [k0_part10_eq_skeleton]
  unfold k0_part10_skel
  refine Runs.bind (start_copy 1 1 (move_up rfl) (Fin.ext (dev_x c).2.2.1)) fun _ _ => ?_
  refine Runs.bind (start_copy 2 1 (move_up rfl) (Fin.ext (dev_y c).2.2.1)) fun _ _ => ?_
  refine Runs.bind (start_copy 3 1 (move_up rfl) (Fin.ext (dev_d c).2.2.1)) fun _ _ => ?_
  refine Runs.bind (load_landed 0 1 (by decide)) fun v hv => ?_
  exact (Runs.ret ⟨v, hv, rfl⟩).settle (by decide)

theorem part11 {v2 v5 v8 v23 v36 v315} {v10 : Elt F .i32} {v : Vec F S48x1024 .bf16} (hv : ∀ j, v j = brought X σ 0 c ((chunk 1).emb j)) :
    Runs c (state X σ c K 6 ![7, 6, 2, 2, 2, 2, 2])
    (k0_part11 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v10 v23 v36 (k0_pay10 v) v315)
    (fun _ => True) (state X σ c K 6 ![7, 7, 4, 2, 2, 2, 2]) := by
  rw [k0_part11_eq_skeleton]
  unfold k0_part11_skel
  refine Runs.bind (load_outcome) fun _ _ => ?_
  refine Runs.bind (keep 0 1 rfl (off3_row c 0) hv) fun _ _ => ?_
  refine Runs.bind (wait_landed 0 2 (move_up rfl) (N_buf 0 2) (by decide)) fun _ _ => ?_
  refine Runs.bind (start_copy 1 2 (move_up rfl) (Fin.ext (dev_x c).2.2.2.1)) fun _ _ => ?_
  exact (Runs.ret trivial).settle (by decide)

theorem part12 {v2 v5 v8 v23 v36 v49 v345} :
    Runs c (state X σ c K 6 ![7, 7, 4, 2, 2, 2, 2])
    (k0_part12 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v23 v36 v49 v345)
    (fun _ => True) (state X σ c K 6 ![7, 7, 7, 2, 2, 2, 2]) := by
  rw [k0_part12_eq_skeleton]
  unfold k0_part12_skel
  refine Runs.bind (start_copy 2 2 (move_up rfl) (Fin.ext (dev_y c).2.2.2.1)) fun _ _ => ?_
  refine Runs.bind (start_copy 3 2 (move_up rfl) (Fin.ext (dev_d c).2.2.2.1)) fun _ _ => ?_
  refine Runs.bind (load_landed 0 2 (by decide)) fun v hv => ?_
  refine Runs.bind (load_outcome) fun _ _ => ?_
  refine Runs.bind (keep 0 2 rfl (off4_row c) hv) fun _ _ => ?_
  exact (Runs.ret trivial).settle (by decide)

theorem part13 {v2 v5 v8 v23 v36 v376 c1} {v10 : Elt F .i32} :
    Runs c (state X σ c K 6 ![7, 7, 7, 2, 2, 2, 2])
    (k0_part13 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v10 v23 v36 v376 c1)
    (fun _ => True) (state X σ c K 6 ![7, 7, 7, 5, 2, 2, 2]) := by
  rw [k0_part13_eq_skeleton]
  unfold k0_part13_skel
  refine Runs.bind (wait_landed 0 3 (move_up rfl) (N_buf 0 3) (by decide)) fun _ _ => ?_
  refine Runs.bind (start_copy 1 3 (move_up rfl) (Fin.ext (dev_x c).2.2.2.2.1)) fun _ _ => ?_
  refine Runs.bind (start_copy 2 3 (move_up rfl) (Fin.ext (dev_y c).2.2.2.2.1)) fun _ _ => ?_
  exact (Runs.ret trivial).settle (by decide)

theorem part14 {v2 v5 v8 v23 v36 v49 c16} {v10 : Elt F .i32} :
    Runs c (state X σ c K 6 ![7, 7, 7, 5, 2, 2, 2])
    (k0_part14 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v10 v23 v36 v49 c16)
    (fun _ => True) (state X σ c K 6 ![7, 7, 7, 7, 3, 2, 2]) := by
  rw [k0_part14_eq_skeleton]
  unfold k0_part14_skel
  refine Runs.bind (start_copy 3 3 (move_up rfl) (Fin.ext (dev_d c).2.2.2.2.1)) fun _ _ => ?_
  refine Runs.bind (load_landed 0 3 (by decide)) fun v hv => ?_
  refine Runs.bind (load_outcome) fun _ _ => ?_
  refine Runs.bind (keep 0 3 rfl (off3_row c 1) hv) fun _ _ => ?_
  refine Runs.bind (wait_landed 0 4 (move_up rfl) (N_buf 0 4) (by decide)) fun _ _ => ?_
  exact (Runs.ret trivial).settle (by decide)

theorem part15 {v2 v5 v8 v23 v36 v437} :
    Runs c (state X σ c K 6 ![7, 7, 7, 7, 3, 2, 2])
    (k0_part15 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v23 v36 v437)
    (fun _ => True) (state X σ c K 6 ![7, 7, 7, 7, 5, 2, 2]) := by
  rw [k0_part15_eq_skeleton]
  unfold k0_part15_skel
  refine Runs.bind (start_copy 1 4 (move_up rfl) (Fin.ext (dev_x c).2.2.2.2.2.1)) fun _ _ => ?_
  refine Runs.bind (start_copy 2 4 (move_up rfl) (Fin.ext (dev_y c).2.2.2.2.2.1)) fun _ _ => ?_
  exact (Runs.ret trivial).settle (by decide)

theorem part16 {v2 v5 v8 v23 v49} {v10 : Elt F .i32} :
    Runs c (state X σ c K 6 ![7, 7, 7, 7, 5, 2, 2])
    (k0_part16 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v10 v23 v49)
    (fun _ => True) (state X σ c K 6 ![7, 7, 7, 7, 7, 4, 2]) := by
  rw [k0_part16_eq_skeleton]
  unfold k0_part16_skel
  refine Runs.bind (start_copy 3 4 (move_up rfl) (Fin.ext (dev_d c).2.2.2.2.2.1)) fun _ _ => ?_
  refine Runs.bind (load_landed 0 4 (by decide)) fun v hv => ?_
  refine Runs.bind (load_outcome) fun _ _ => ?_
  refine Runs.bind (keep 0 4 rfl (off5_row c 1) hv) fun _ _ => ?_
  refine Runs.bind (wait_landed 0 5 (move_up rfl) (N_buf 0 5) (by decide)) fun _ _ => ?_
  refine Runs.bind (start_copy 1 5 (move_up rfl) (Fin.ext (dev_x c).2.2.2.2.2.2.1)) fun _ _ => ?_
  exact (Runs.ret trivial).settle (by decide)

theorem part17 {v2 v8 v23 v36 v49} :
    Runs c (state X σ c K 6 ![7, 7, 7, 7, 7, 4, 2])
    (k0_part17 (F := F) xM hx piM hp oM ho sM hs zM hz xqM hxq yqM hyq dqM hdq cc0_scratch5 cc0_scratch6 cc0_scratch7 cc0_scratch8 cc0_scratch9 cc0_scratch10 cc0_scratch11 cc0_scratch12
      c v2 v8 v23 v36 v49)
    (fun _ => True) (state X σ c K 6 ![7, 7, 7, 7, 7, 7, 2]) := by
  rw [k0_part17_eq_skeleton]
  unfold k0_part17_skel
  refine Runs.bind (start_copy 2 5 (move_up rfl) (Fin.ext (dev_y c).2.2.2.2.2.2.1)) fun _ _ => ?_
  refine Runs.bind (start_copy 3 5 (move_up rfl) (Fin.ext (dev_d c).2.2.2.2.2.2.1)) fun _ _ => ?_
  refine Runs.bind (load_landed 0 5 (by decide)) fun v hv => ?_
  refine Runs.bind (load_outcome) fun _ _ => ?_
  refine Runs.bind (keep 0 5 rfl (off6_row c 0) hv) fun _ _ => ?_
  exact (Runs.ret trivial).settle (by decide)

theorem part18 {v2 v5 v8 v23 v36} {v10 : Elt F .i32} :
    Runs c (state X σ c K 6 ![7, 7, 7, 7, 7, 7, 2])
    (k0_part18 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v10 v23 v36)
    (fun _ => True) (state X σ c K 6 ![7, 7, 7, 7, 7, 7, 4]) := by
  rw [k0_part18_eq_skeleton]
  unfold k0_part18_skel
  refine Runs.bind (wait_landed 0 6 (move_up rfl) (N_buf 0 6) (by decide)) fun _ _ => ?_
  refine Runs.bind (start_copy 1 6 (move_up rfl) (Fin.ext (dev_x c).2.2.2.2.2.2.2)) fun _ _ => ?_
  exact (Runs.ret trivial).settle (by decide)

theorem part19 {v5 v8 v23 v36 v48 v49} :
    Runs c (state X σ c K 6 ![7, 7, 7, 7, 7, 7, 4])
    (k0_part19 (F := F) xM hx piM hp oM ho sM hs zM hz xqM hxq yqM hyq dqM hdq cc0_scratch5 cc0_scratch6 cc0_scratch7 cc0_scratch8 cc0_scratch9 cc0_scratch10 cc0_scratch11 cc0_scratch12
      c v5 v8 v23 v36 v48 v49)
    (fun _ => True) (state X σ c K 6 ![7, 7, 7, 7, 7, 7, 7]) := by
  rw [k0_part19_eq_skeleton]
  unfold k0_part19_skel
  refine Runs.bind (start_copy 2 6 (move_up rfl) (Fin.ext (dev_y c).2.2.2.2.2.2.2)) fun _ _ => ?_
  refine Runs.bind (start_copy 3 6 (move_up rfl) (Fin.ext (dev_d c).2.2.2.2.2.2.2)) fun _ _ => ?_
  refine Runs.bind (load_landed 0 6 (by decide)) fun v hv => ?_
  refine Runs.bind (load_outcome) fun _ _ => ?_
  refine Runs.bind (keep 0 6 rfl (off6_row c 1) hv) fun _ _ => ?_
  exact (Runs.ret trivial).settle (by decide)

end Cert.Exchange

end
-- ==== Proof.Exchange.Receive.lean ====
/-
The last stores of the body: each chunk the peers brought is waited for and stored in the result.
-/
module

public import proofs.«01_k».proof.Proof.Exchange.Send

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → S1x1024x1024.Idx → Elt F .bf16} {σ : Equiv.Perm (Fin 4)} {c : Dev nD} {K : Dev nD × Tag → ℕ}
  {b : ℕ} {s s' : Fin 7 → ℕ}

variable {hx : xM.IsWhole} {hp : piM.IsWhole} {ho : oM.IsWhole} {hs : sM.IsWhole} {hz : zM.IsWhole} {hxq : xqM.IsWhole} {hyq : yqM.IsWhole} {hdq : dqM.IsWhole}

theorem part20 {v2 v8 v36 v48 v585} :
    Runs c (state X σ c K 6 ![7, 7, 7, 7, 7, 7, 7])
    (k0_part20 (F := F) xM hx piM hp oM ho sM hs zM hz xqM hxq yqM hyq dqM hdq cc0_scratch5 cc0_scratch6 cc0_scratch7 cc0_scratch8 cc0_scratch9 cc0_scratch10 cc0_scratch11 cc0_scratch12
      c v2 v8 v36 v48 v585)
    (fun _ => True) (state X σ c K 6 ![11, 7, 7, 7, 7, 7, 7]) := by
  rw [k0_part20_eq_skeleton]
  unfold k0_part20_skel
  refine Runs.bind (wait_landed 1 0 (move_up rfl) (N_buf 1 0) (by decide)) fun _ _ => ?_
  refine Runs.bind (load_landed 1 0 (by decide)) fun v hv => ?_
  refine Runs.bind (load_outcome) fun _ _ => ?_
  refine Runs.bind (keep 1 0 rfl (off7_row c 0 0) hv) fun _ _ => ?_
  refine Runs.bind (wait_landed 2 0 (move_up rfl) (N_buf 2 0) (by decide)) fun _ _ => ?_
  refine Runs.bind (load_landed 2 0 (by decide)) fun v hv => ?_
  refine Runs.bind (load_outcome) fun _ _ => ?_
  refine Runs.bind (keep 2 0 rfl (off7_row c 1 0) hv) fun _ _ => ?_
  exact (Runs.ret trivial).settle (by decide)

theorem part21 {v5 v8 v23 v36 v48 v623} :
    Runs c (state X σ c K 6 ![11, 7, 7, 7, 7, 7, 7])
    (k0_part21 (F := F) xM hx piM hp oM ho sM hs zM hz xqM hxq yqM hyq dqM hdq cc0_scratch5 cc0_scratch6 cc0_scratch7 cc0_scratch8 cc0_scratch9 cc0_scratch10 cc0_scratch11 cc0_scratch12
      c v5 v8 v23 v36 v48 v623)
    (fun _ => True) (state X σ c K 6 ![13, 8, 7, 7, 7, 7, 7]) := by
  rw [k0_part21_eq_skeleton]
  unfold k0_part21_skel
  refine Runs.bind (wait_landed 3 0 (move_up rfl) (N_buf 3 0) (by decide)) fun _ _ => ?_
  refine Runs.bind (load_landed 3 0 (by decide)) fun v hv => ?_
  refine Runs.bind (load_outcome) fun _ _ => ?_
  refine Runs.bind (keep 3 0 rfl (off7_row c 2 0) hv) fun _ _ => ?_
  refine Runs.bind (wait_landed 1 1 (move_up rfl) (N_buf 1 1) (by decide)) fun _ _ => ?_
  exact (Runs.ret trivial).settle (by decide)

theorem part22 {v2 v8 v23 v36 v48 v642} :
    Runs c (state X σ c K 6 ![13, 8, 7, 7, 7, 7, 7])
    (k0_part22 (F := F) xM hx piM hp oM ho sM hs zM hz xqM hxq yqM hyq dqM hdq cc0_scratch5 cc0_scratch6 cc0_scratch7 cc0_scratch8 cc0_scratch9 cc0_scratch10 cc0_scratch11 cc0_scratch12
      c v2 v8 v23 v36 v48 v642)
    (fun _ => True) (state X σ c K 6 ![13, 11, 7, 7, 7, 7, 7]) := by
  rw [k0_part22_eq_skeleton]
  unfold k0_part22_skel
  refine Runs.bind (load_landed 1 1 (by decide)) fun v hv => ?_
  refine Runs.bind (load_outcome) fun _ _ => ?_
  refine Runs.bind (keep 1 1 rfl (off8_row c 0 0) hv) fun _ _ => ?_
  refine Runs.bind (wait_landed 2 1 (move_up rfl) (N_buf 2 1) (by decide)) fun _ _ => ?_
  refine Runs.bind (load_landed 2 1 (by decide)) fun v hv => ?_
  refine Runs.bind (load_outcome) fun _ _ => ?_
  refine Runs.bind (keep 2 1 rfl (off8_row c 1 0) hv) fun _ _ => ?_
  exact (Runs.ret trivial).settle (by decide)

theorem part23 {v5 v8 v23 v36 v48 v680 v682} :
    Runs c (state X σ c K 6 ![13, 11, 7, 7, 7, 7, 7])
    (k0_part23 (F := F) xM hx piM hp oM ho sM hs zM hz xqM hxq yqM hyq dqM hdq cc0_scratch5 cc0_scratch6 cc0_scratch7 cc0_scratch8 cc0_scratch9 cc0_scratch10 cc0_scratch11 cc0_scratch12
      c v5 v8 v23 v36 v48 v680 v682)
    (fun r => ∃ v : Vec F S64x1024 .bf16, (∀ j, v j = brought X σ 1 c ((chunk 2).emb j)) ∧ r.1 = k0_pay23 v) (state X σ c K 6 ![13, 13, 8, 7, 7, 7, 7]) := by
  rw [k0_part23_eq_skeleton]
  unfold k0_part23_skel
  refine Runs.bind (wait_landed 3 1 (move_up rfl) (N_buf 3 1) (by decide)) fun _ _ => ?_
  refine Runs.bind (load_landed 3 1 (by decide)) fun v hv => ?_
  refine Runs.bind (load_outcome) fun _ _ => ?_
  refine Runs.bind (keep 3 1 rfl (off8_row c 2 0) hv) fun _ _ => ?_
  refine Runs.bind (wait_landed 1 2 (move_up rfl) (N_buf 1 2) (by decide)) fun _ _ => ?_
  refine Runs.bind (load_landed 1 2 (by decide)) fun w hw => ?_
  exact (Runs.ret ⟨w, hw, rfl⟩).settle (by decide)

theorem part24 {v2 v8 v23 v36 v48 v712 c80} {v : Vec F S64x1024 .bf16} (hv : ∀ j, v j = brought X σ 1 c ((chunk 2).emb j)) :
    Runs c (state X σ c K 6 ![13, 13, 8, 7, 7, 7, 7])
    (k0_part24 (F := F) xM hx piM hp oM ho sM hs zM hz xqM hxq yqM hyq dqM hdq cc0_scratch5 cc0_scratch6 cc0_scratch7 cc0_scratch8 cc0_scratch9 cc0_scratch10 cc0_scratch11 cc0_scratch12
      c v2 v8 v23 v36 v48 (k0_pay23 v) v712 c80)
    (fun _ => True) (state X σ c K 6 ![13, 13, 11, 7, 7, 7, 7]) := by
  rw [k0_part24_eq_skeleton]
  unfold k0_part24_skel
  refine Runs.bind (load_outcome) fun _ _ => ?_
  refine Runs.bind (keep 1 2 rfl (off9_row c 0) hv) fun _ _ => ?_
  refine Runs.bind (wait_landed 2 2 (move_up rfl) (N_buf 2 2) (by decide)) fun _ _ => ?_
  refine Runs.bind (load_landed 2 2 (by decide)) fun w hw => ?_
  refine Runs.bind (load_outcome) fun _ _ => ?_
  refine Runs.bind (keep 2 2 rfl (off9_row c 1) hw) fun _ _ => ?_
  exact (Runs.ret trivial).settle (by decide)

theorem part25 {v5 v8 v23 v48 v737} :
    Runs c (state X σ c K 6 ![13, 13, 11, 7, 7, 7, 7])
    (k0_part25 (F := F) xM hx piM hp oM ho sM hs zM hz xqM hxq yqM hyq dqM hdq cc0_scratch5 cc0_scratch6 cc0_scratch7 cc0_scratch8 cc0_scratch9 cc0_scratch10 cc0_scratch11 cc0_scratch12
      c v5 v8 v23 v48 v737)
    (fun r => ∃ v : Vec F S48x1024 .bf16, (∀ j, v j = brought X σ 1 c ((chunk 3).emb j)) ∧ r = k0_pay27 v) (state X σ c K 6 ![13, 13, 13, 8, 7, 7, 7]) := by
  rw [k0_part25_eq_skeleton]
  unfold k0_part25_skel
  refine Runs.bind (wait_landed 3 2 (move_up rfl) (N_buf 3 2) (by decide)) fun _ _ => ?_
  refine Runs.bind (load_landed 3 2 (by decide)) fun v hv => ?_
  refine Runs.bind (load_outcome) fun _ _ => ?_
  refine Runs.bind (keep 3 2 rfl (off9_row c 2) hv) fun _ _ => ?_
  refine Runs.bind (wait_landed 1 3 (move_up rfl) (N_buf 1 3) (by decide)) fun _ _ => ?_
  refine Runs.bind (load_landed 1 3 (by decide)) fun w hw => ?_
  refine Runs.bind (load_outcome) fun _ _ => ?_
  exact (Runs.ret ⟨w, hw, rfl⟩).settle (by decide)

theorem part26 {v2 v8 v23 v36 v48} {v : Vec F S48x1024 .bf16} (hv : ∀ j, v j = brought X σ 1 c ((chunk 3).emb j)) :
    Runs c (state X σ c K 6 ![13, 13, 13, 8, 7, 7, 7])
    (k0_part26 (F := F) xM hx piM hp oM ho sM hs zM hz xqM hxq yqM hyq dqM hdq cc0_scratch5 cc0_scratch6 cc0_scratch7 cc0_scratch8 cc0_scratch9 cc0_scratch10 cc0_scratch11 cc0_scratch12
      c v2 v8 v23 v36 v48 (k0_pay27 v))
    (fun _ => True) (state X σ c K 6 ![13, 13, 13, 11, 7, 7, 7]) := by
  rw [k0_part26_eq_skeleton]
  unfold k0_part26_skel
  refine Runs.bind (keep 1 3 rfl (off8_row c 0 1) hv) fun _ _ => ?_
  refine Runs.bind (wait_landed 2 3 (move_up rfl) (N_buf 2 3) (by decide)) fun _ _ => ?_
  refine Runs.bind (load_landed 2 3 (by decide)) fun w hw => ?_
  refine Runs.bind (load_outcome) fun _ _ => ?_
  refine Runs.bind (keep 2 3 rfl (off8_row c 1 1) hw) fun _ _ => ?_
  exact (Runs.ret trivial).settle (by decide)

theorem part27 {v5 v8 v23 v48 v794} :
    Runs c (state X σ c K 6 ![13, 13, 13, 11, 7, 7, 7])
    (k0_part27 (F := F) xM hx piM hp oM ho sM hs zM hz xqM hxq yqM hyq dqM hdq cc0_scratch5 cc0_scratch6 cc0_scratch7 cc0_scratch8 cc0_scratch9 cc0_scratch10 cc0_scratch11 cc0_scratch12
      c v5 v8 v23 v48 v794)
    (fun _ => True) (state X σ c K 6 ![13, 13, 13, 13, 9, 7, 7]) := by
  rw [k0_part27_eq_skeleton]
  unfold k0_part27_skel
  refine Runs.bind (wait_landed 3 3 (move_up rfl) (N_buf 3 3) (by decide)) fun _ _ => ?_
  refine Runs.bind (load_landed 3 3 (by decide)) fun v hv => ?_
  refine Runs.bind (load_outcome) fun _ _ => ?_
  refine Runs.bind (keep 3 3 rfl (off8_row c 2 1) hv) fun _ _ => ?_
  refine Runs.bind (wait_landed 1 4 (move_up rfl) (N_buf 1 4) (by decide)) fun _ _ => ?_
  refine Runs.bind (load_landed 1 4 (by decide)) fun v hv => ?_
  refine Runs.bind (load_outcome) fun _ _ => ?_
  refine Runs.bind (keep 1 4 rfl (off7_row c 0 1) hv) fun _ _ => ?_
  exact (Runs.ret trivial).settle (by decide)

theorem part28 {v2 v8 v23 v36 v48 v832} :
    Runs c (state X σ c K 6 ![13, 13, 13, 13, 9, 7, 7])
    (k0_part28 (F := F) xM hx piM hp oM ho sM hs zM hz xqM hxq yqM hyq dqM hdq cc0_scratch5 cc0_scratch6 cc0_scratch7 cc0_scratch8 cc0_scratch9 cc0_scratch10 cc0_scratch11 cc0_scratch12
      c v2 v8 v23 v36 v48 v832)
    (fun r => ∀ j, r.2 j = brought X σ 3 c ((chunk 4).emb j)) (state X σ c K 6 ![13, 13, 13, 13, 12, 7, 7]) := by
  rw [k0_part28_eq_skeleton]
  unfold k0_part28_skel
  refine Runs.bind (wait_landed 2 4 (move_up rfl) (N_buf 2 4) (by decide)) fun _ _ => ?_
  refine Runs.bind (load_landed 2 4 (by decide)) fun v hv => ?_
  refine Runs.bind (load_outcome) fun _ _ => ?_
  refine Runs.bind (keep 2 4 rfl (off7_row c 1 1) hv) fun _ _ => ?_
  refine Runs.bind (wait_landed 3 4 (move_up rfl) (N_buf 3 4) (by decide)) fun _ _ => ?_
  refine Runs.bind (load_landed 3 4 (by decide)) fun w hw => ?_
  exact (Runs.ret hw).settle (by decide)

theorem part29 {v2 v5 v8 v23 v36 v48 v851} {v : Vec F S32x1024 .bf16} (hv : ∀ j, v j = brought X σ 3 c ((chunk 4).emb j)) :
    Runs c (state X σ c K 6 ![13, 13, 13, 13, 12, 7, 7])
    (k0_part29 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v23 v36 v48 v851 v)
    (fun _ => True) (state X σ c K 6 ![13, 13, 13, 13, 13, 9, 7]) := by
  rw [k0_part29_eq_skeleton]
  unfold k0_part29_skel
  refine Runs.bind (load_outcome) fun _ _ => ?_
  refine Runs.bind (keep 3 4 rfl (off7_row c 2 1) hv) fun _ _ => ?_
  refine Runs.bind (wait_landed 1 5 (move_up rfl) (N_buf 1 5) (by decide)) fun _ _ => ?_
  refine Runs.bind (load_landed 1 5 (by decide)) fun w hw => ?_
  refine Runs.bind (load_outcome) fun _ _ => ?_
  refine Runs.bind (keep 1 5 rfl (off10_row c 0 0) hw) fun _ _ => ?_
  exact (Runs.ret trivial).settle (by decide)

theorem part30 {v8 v23 v36 v48 v889 v891 v892} :
    Runs c (state X σ c K 6 ![13, 13, 13, 13, 13, 9, 7])
    (k0_part30 (F := F) xM hx piM hp oM ho sM hs zM hz xqM hxq yqM hyq dqM hdq cc0_scratch5 cc0_scratch6 cc0_scratch7 cc0_scratch8 cc0_scratch9 cc0_scratch10 cc0_scratch11 cc0_scratch12
      c v8 v23 v36 v48 v889 v891 v892)
    (fun r => ∃ v : Vec F S16x1024 .bf16, (∀ j, v j = brought X σ 3 c ((chunk 5).emb j)) ∧ r.1 = k0_pay36 v) (state X σ c K 6 ![13, 13, 13, 13, 13, 12, 7]) := by
  rw [k0_part30_eq_skeleton]
  unfold k0_part30_skel
  refine Runs.bind (wait_landed 2 5 (move_up rfl) (N_buf 2 5) (by decide)) fun _ _ => ?_
  refine Runs.bind (load_landed 2 5 (by decide)) fun v hv => ?_
  refine Runs.bind (load_outcome) fun _ _ => ?_
  refine Runs.bind (keep 2 5 rfl (off10_row c 1 0) hv) fun _ _ => ?_
  refine Runs.bind (wait_landed 3 5 (move_up rfl) (N_buf 3 5) (by decide)) fun _ _ => ?_
  refine Runs.bind (load_landed 3 5 (by decide)) fun w hw => ?_
  exact (Runs.ret ⟨w, hw, rfl⟩).settle (by decide)

theorem part31 {v2 v5 v8 v23 v36 v48 v922} {v : Vec F S16x1024 .bf16} (hv : ∀ j, v j = brought X σ 3 c ((chunk 5).emb j)) :
    Runs c (state X σ c K 6 ![13, 13, 13, 13, 13, 12, 7])
    (k0_part31 (F := F) xM hx piM hp oM ho sM hs zM hz xqM hxq yqM hyq dqM hdq cc0_scratch5 cc0_scratch6 cc0_scratch7 cc0_scratch8 cc0_scratch9 cc0_scratch10 cc0_scratch11 cc0_scratch12
      c v2 v5 v8 v23 v36 v48 (k0_pay36 v) v922)
    (fun _ => True) (state X σ c K 6 ![13, 13, 13, 13, 13, 13, 9]) := by
  rw [k0_part31_eq_skeleton]
  unfold k0_part31_skel
  refine Runs.bind (load_outcome) fun _ _ => ?_
  refine Runs.bind (keep 3 5 rfl (off10_row c 2 0) hv) fun _ _ => ?_
  refine Runs.bind (wait_landed 1 6 (move_up rfl) (N_buf 1 6) (by decide)) fun _ _ => ?_
  refine Runs.bind (load_landed 1 6 (by decide)) fun w hw => ?_
  refine Runs.bind (load_outcome) fun _ _ => ?_
  refine Runs.bind (keep 1 6 rfl (off10_row c 0 1) hw) fun _ _ => ?_
  exact (Runs.ret trivial).settle (by decide)

theorem part32 {v8 v23 v36 v48 v946} :
    Runs c (state X σ c K 6 ![13, 13, 13, 13, 13, 13, 9])
    (k0_part32 (F := F) xM hx piM hp oM ho sM hs zM hz xqM hxq yqM hyq dqM hdq cc0_scratch5 cc0_scratch6 cc0_scratch7 cc0_scratch8 cc0_scratch9 cc0_scratch10 cc0_scratch11 cc0_scratch12
      c v8 v23 v36 v48 v946)
    (fun _ => True) (state X σ c K 6 ![13, 13, 13, 13, 13, 13, 13]) := by
  rw [k0_part32_eq_skeleton]
  unfold k0_part32_skel
  refine Runs.bind (wait_landed 2 6 (move_up rfl) (N_buf 2 6) (by decide)) fun _ _ => ?_
  refine Runs.bind (load_landed 2 6 (by decide)) fun v hv => ?_
  refine Runs.bind (load_outcome) fun _ _ => ?_
  refine Runs.bind (keep 2 6 rfl (off10_row c 1 1) hv) fun _ _ => ?_
  refine Runs.bind (wait_landed 3 6 (move_up rfl) (N_buf 3 6) (by decide)) fun _ _ => ?_
  refine Runs.bind (load_landed 3 6 (by decide)) fun v hv => ?_
  refine Runs.bind (load_outcome) fun _ _ => ?_
  refine Runs.bind (keep 3 6 rfl (off10_row c 2 1) hv) fun _ _ => ?_
  exact (Runs.ret trivial).settle (by decide)

end Cert.Exchange

end
-- ==== Proof.Exchange.Finish.lean ====
/-
The end of the body: every copy that left is waited for.
-/
module

public import proofs.«01_k».proof.Proof.Exchange.Send

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → S1x1024x1024.Idx → Elt F .bf16} {σ : Equiv.Perm (Fin 4)} {c : Dev nD} {K : Dev nD × Tag → ℕ}
  {b : ℕ} {s s' : Fin 7 → ℕ}

variable {hx : xM.IsWhole} {hp : piM.IsWhole} {ho : oM.IsWhole} {hs : sM.IsWhole} {hz : zM.IsWhole} {hxq : xqM.IsWhole} {hyq : yqM.IsWhole} {hdq : dqM.IsWhole}

theorem part33 :
    Runs c (state X σ c K 6 ![13, 13, 13, 13, 13, 13, 13])
    (k0_part33 (F := F) xM hx piM hp oM ho sM hs zM hz xqM hxq yqM hyq dqM hdq cc0_scratch5 cc0_scratch6 cc0_scratch7 cc0_scratch8 cc0_scratch9 cc0_scratch10 cc0_scratch11 cc0_scratch12)
    (fun _ => True) (state X σ c K 6 ![17, 14, 13, 13, 13, 13, 13]) := by
  rw [k0_part33_eq_skeleton]
  unfold k0_part33_skel
  refine Runs.bind (wait_left 0 0 (move_up rfl) (N_orig 0 0)) fun _ _ => ?_
  refine Runs.bind (wait_left 1 0 (move_up rfl) (N_orig 1 0)) fun _ _ => ?_
  refine Runs.bind (wait_left 2 0 (move_up rfl) (N_orig 2 0)) fun _ _ => ?_
  refine Runs.bind (wait_left 3 0 (move_up rfl) (N_orig 3 0)) fun _ _ => ?_
  refine Runs.bind (wait_left 0 1 (move_up rfl) (N_orig 0 1)) fun _ _ => ?_
  exact (Runs.ret trivial).settle (by decide)

theorem part34 :
    Runs c (state X σ c K 6 ![17, 14, 13, 13, 13, 13, 13])
    (k0_part34 (F := F) xM hx piM hp oM ho sM hs zM hz xqM hxq yqM hyq dqM hdq cc0_scratch5 cc0_scratch6 cc0_scratch7 cc0_scratch8 cc0_scratch9 cc0_scratch10 cc0_scratch11 cc0_scratch12)
    (fun _ => True) (state X σ c K 6 ![17, 17, 15, 13, 13, 13, 13]) := by
  rw [k0_part34_eq_skeleton]
  unfold k0_part34_skel
  refine Runs.bind (wait_left 1 1 (move_up rfl) (N_orig 1 1)) fun _ _ => ?_
  refine Runs.bind (wait_left 2 1 (move_up rfl) (N_orig 2 1)) fun _ _ => ?_
  refine Runs.bind (wait_left 3 1 (move_up rfl) (N_orig 3 1)) fun _ _ => ?_
  refine Runs.bind (wait_left 0 2 (move_up rfl) (N_orig 0 2)) fun _ _ => ?_
  refine Runs.bind (wait_left 1 2 (move_up rfl) (N_orig 1 2)) fun _ _ => ?_
  exact (Runs.ret trivial).settle (by decide)

theorem part35 :
    Runs c (state X σ c K 6 ![17, 17, 15, 13, 13, 13, 13])
    (k0_part35 (F := F) xM hx piM hp oM ho sM hs zM hz xqM hxq yqM hyq dqM hdq cc0_scratch5 cc0_scratch6 cc0_scratch7 cc0_scratch8 cc0_scratch9 cc0_scratch10 cc0_scratch11 cc0_scratch12)
    (fun _ => True) (state X σ c K 6 ![17, 17, 17, 16, 13, 13, 13]) := by
  rw [k0_part35_eq_skeleton]
  unfold k0_part35_skel
  refine Runs.bind (wait_left 2 2 (move_up rfl) (N_orig 2 2)) fun _ _ => ?_
  refine Runs.bind (wait_left 3 2 (move_up rfl) (N_orig 3 2)) fun _ _ => ?_
  refine Runs.bind (wait_left 0 3 (move_up rfl) (N_orig 0 3)) fun _ _ => ?_
  refine Runs.bind (wait_left 1 3 (move_up rfl) (N_orig 1 3)) fun _ _ => ?_
  refine Runs.bind (wait_left 2 3 (move_up rfl) (N_orig 2 3)) fun _ _ => ?_
  exact (Runs.ret trivial).settle (by decide)

theorem part36 :
    Runs c (state X σ c K 6 ![17, 17, 17, 16, 13, 13, 13])
    (k0_part36 (F := F) xM hx piM hp oM ho sM hs zM hz xqM hxq yqM hyq dqM hdq cc0_scratch5 cc0_scratch6 cc0_scratch7 cc0_scratch8 cc0_scratch9 cc0_scratch10 cc0_scratch11 cc0_scratch12)
    (fun _ => True) (state X σ c K 6 ![17, 17, 17, 17, 17, 13, 13]) := by
  rw [k0_part36_eq_skeleton]
  unfold k0_part36_skel
  refine Runs.bind (wait_left 3 3 (move_up rfl) (N_orig 3 3)) fun _ _ => ?_
  refine Runs.bind (wait_left 0 4 (move_up rfl) (N_orig 0 4)) fun _ _ => ?_
  refine Runs.bind (wait_left 1 4 (move_up rfl) (N_orig 1 4)) fun _ _ => ?_
  refine Runs.bind (wait_left 2 4 (move_up rfl) (N_orig 2 4)) fun _ _ => ?_
  refine Runs.bind (wait_left 3 4 (move_up rfl) (N_orig 3 4)) fun _ _ => ?_
  exact (Runs.ret trivial).settle (by decide)

theorem part37 :
    Runs c (state X σ c K 6 ![17, 17, 17, 17, 17, 13, 13])
    (k0_part37 (F := F) xM hx piM hp oM ho sM hs zM hz xqM hxq yqM hyq dqM hdq cc0_scratch5 cc0_scratch6 cc0_scratch7 cc0_scratch8 cc0_scratch9 cc0_scratch10 cc0_scratch11 cc0_scratch12)
    (fun _ => True) (state X σ c K 6 ![17, 17, 17, 17, 17, 17, 14]) := by
  rw [k0_part37_eq_skeleton]
  unfold k0_part37_skel
  refine Runs.bind (wait_left 0 5 (move_up rfl) (N_orig 0 5)) fun _ _ => ?_
  refine Runs.bind (wait_left 1 5 (move_up rfl) (N_orig 1 5)) fun _ _ => ?_
  refine Runs.bind (wait_left 2 5 (move_up rfl) (N_orig 2 5)) fun _ _ => ?_
  refine Runs.bind (wait_left 3 5 (move_up rfl) (N_orig 3 5)) fun _ _ => ?_
  refine Runs.bind (wait_left 0 6 (move_up rfl) (N_orig 0 6)) fun _ _ => ?_
  exact (Runs.ret trivial).settle (by decide)

end Cert.Exchange

end
-- ==== Proof.Exchange.Body.lean ====
/-
The whole body: from nothing sent and nothing stored to everything sent, landed, stored and waited for.
-/
module

public import proofs.«01_k».proof.Proof.Exchange.Forward
public import proofs.«01_k».proof.Proof.Exchange.Receive
public import proofs.«01_k».proof.Proof.Exchange.Finish

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → S1x1024x1024.Idx → Elt F .bf16} {σ : Equiv.Perm (Fin 4)} {c : Dev nD} {K : Dev nD × Tag → ℕ}
  {b : ℕ} {s s' : Fin 7 → ℕ}

variable {hx : xM.IsWhole} {hp : piM.IsWhole} {ho : oM.IsWhole} {hs : sM.IsWhole} {hz : zM.IsWhole} {hxq : xqM.IsWhole} {hyq : yqM.IsWhole} {hdq : dqM.IsWhole}

/-- Everything but the last two waits. -/
theorem part38 : Runs c (state X σ c K 0 ![0, 0, 0, 0, 0, 0, 0])
    (k0_part38 (F := F) xM hx piM hp oM ho sM hs zM hz xqM hxq yqM hyq dqM hdq cc0_scratch5 cc0_scratch6 cc0_scratch7 cc0_scratch8 cc0_scratch9 cc0_scratch10 cc0_scratch11 cc0_scratch12)
    (fun _ => True) (state X σ c K 6 ![17, 17, 17, 17, 17, 17, 15]) := by
  rw [k0_part38_eq_skeleton]
  unfold k0_part38_skel
  refine Runs.bind part1 fun r hr => ?_
  obtain ⟨d0, v2, v5, v8, v10, w2, v11, v14, v17, v20, w1, v22, v23, v24, v27, v32, v33⟩ := r
  obtain ⟨hd, h10, h11, h14, h17, h20⟩ := hr
  dsimp only at hd h10 h11 h14 h17 h20
  subst hd
  refine Runs.bind (part2 h11 h14 h17 h20) fun r h57 => ?_
  obtain ⟨v36, v48, v49, v57, v67, c1⟩ := r
  refine Runs.bind (part3 h10 h57) fun _ _ => ?_
  refine Runs.bind (part4 h10) fun _ _ => ?_
  refine Runs.bind (part5 h10) fun _ h => ?_
  obtain ⟨v, hv, rfl⟩ := h
  refine Runs.bind (part6 h10 hv) fun _ _ => ?_
  refine Runs.bind (part7 h10) fun _ _ => ?_
  refine Runs.bind part8 fun _ _ => ?_
  refine Runs.bind part9 fun _ _ => ?_
  refine Runs.bind part10 fun r h => ?_
  obtain ⟨w, v315⟩ := r
  obtain ⟨v, hv, h⟩ := h
  dsimp only at h
  subst h
  refine Runs.bind (part11 hv) fun _ _ => ?_
  refine Runs.bind part12 fun r _ => ?_
  obtain ⟨v376, c1⟩ := r
  refine Runs.bind part13 fun _ _ => ?_
  refine Runs.bind part14 fun _ _ => ?_
  refine Runs.bind part15 fun _ _ => ?_
  refine Runs.bind part16 fun _ _ => ?_
  refine Runs.bind part17 fun _ _ => ?_
  refine Runs.bind part18 fun _ _ => ?_
  refine Runs.bind part19 fun _ _ => ?_
  refine Runs.bind part20 fun _ _ => ?_
  refine Runs.bind part21 fun _ _ => ?_
  refine Runs.bind part22 fun r _ => ?_
  obtain ⟨v680, v682⟩ := r
  refine Runs.bind part23 fun r h => ?_
  obtain ⟨w, v712, c80⟩ := r
  obtain ⟨v, hv, h⟩ := h
  dsimp only at h
  subst h
  refine Runs.bind (part24 hv) fun _ _ => ?_
  refine Runs.bind part25 fun _ h => ?_
  obtain ⟨v, hv, rfl⟩ := h
  refine Runs.bind (part26 hv) fun _ _ => ?_
  refine Runs.bind part27 fun _ _ => ?_
  refine Runs.bind part28 fun r hv => ?_
  obtain ⟨v851, v⟩ := r
  refine Runs.bind (part29 hv) fun r _ => ?_
  obtain ⟨v889, v891, v892⟩ := r
  refine Runs.bind part30 fun r h => ?_
  obtain ⟨w, v922⟩ := r
  obtain ⟨v, hv, h⟩ := h
  dsimp only at h
  subst h
  refine Runs.bind (part31 hv) fun _ _ => ?_
  refine Runs.bind part32 fun _ _ => ?_
  refine Runs.bind part33 fun _ _ => ?_
  refine Runs.bind part34 fun _ _ => ?_
  refine Runs.bind part35 fun _ _ => ?_
  refine Runs.bind part36 fun _ _ => ?_
  refine Runs.bind part37 fun _ _ => ?_
  refine Runs.bind (wait_left 1 6 (move_up rfl) (N_orig 1 6)) fun _ _ => ?_
  exact (Runs.ret trivial).settle (by decide)

/-- The body. -/
theorem body_runs : Runs c (state X σ c K 0 ![0, 0, 0, 0, 0, 0, 0])
    (cc0_body (F := F) xM hx piM hp oM ho sM hs zM hz xqM hxq yqM hyq dqM hdq cc0_scratch5 cc0_scratch6 cc0_scratch7 cc0_scratch8 cc0_scratch9 cc0_scratch10 cc0_scratch11 cc0_scratch12)
    (fun _ => True) (state X σ c K 6 fun _ => 17) := by
  rw [cc0_body_eq_skeleton]
  unfold cc0_body_skel
  refine Runs.bind part38 fun _ _ => ?_
  refine Runs.bind (wait_left 2 6 (move_up rfl) (N_orig 2 6)) fun _ _ => ?_
  refine Runs.bind (wait_left 3 6 (move_up rfl) (N_orig 3 6)) fun _ _ => ?_
  exact (Runs.ret trivial).settle (by decide)

end Cert.Exchange

end
-- ==== Proof.Exchange.Ends.lean ====
/- What a device starts from and what it ends with, against the state its body runs in. -/
module

public import proofs.«01_k».proof.Proof.Exchange.Buffers
public import proofs.«01_k».proof.Proof.Exchange.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x1024x1024.Idx → Elt F .bf16) (σ : Equiv.Perm (Fin 4)) (c : Dev nD) (K : Dev nD × Tag → ℕ)

/-! ## What a device starts from -/

/-- The credits dealt to a device: its barrier's five units, and its landing cells'. -/
def credits : sProp 𝕄 :=
  iprop(cred (tallyAt (barCell c) () 5) ∗ bigSep Finset.univ fun p : Fin 7 × Fin 4 => cred (tallyAt (inCell c p.2 p.1) () (N p.1)))

/-- A device's positions on its own cells. -/
def positions : sProp 𝕄 :=
  iprop(atPos ER (barCell c) 0 ∅ 0 ∗ (bigSep Finset.univ fun p : Fin 7 × Fin 4 => atPos ER (outCell c p.2 p.1) 0 ∅ 0)
    ∗ bigSep Finset.univ fun p : Fin 7 × Fin 4 => atPos ER (inCell c p.2 p.1) 0 ∅ 0)

/-- The tokens of the duties a device pays. -/
def tokens : sProp 𝕄 :=
  iprop((bigSep Finset.univ fun i : Fin 5 => dutyTok ER (barCell (hail σ i c)) 0 i)
    ∗ (bigSep Finset.univ fun p : Fin 7 × Fin 4 => dutyTok ER (outCell c p.2 p.1) 0 0)
    ∗ bigSep Finset.univ fun p : Fin 7 × Fin 4 => dutyTok ER (inCell (link σ p.2 c) p.2 p.1) 0 0)

/-- The five buffers of a quarter. -/
def pools : sProp 𝕄 := iprop(pool (F := F) c sM ∗ pool c zM ∗ pool c xqM ∗ pool c yqM ∗ pool c dqM)

/-- The result's staging buffer at given contents. -/
def outHolds (g : (cc0_stg2_0 : Ref sig .tc).ty.Contents (Elt F)) : sProp 𝕄 :=
  iprop((Memref.whole cc0_stg2_0).view.loc (c : Thread nD τ) ↦{fullShare} g)

variable {X σ c K}

theorem bounds_start : (∀ f, 0 < started f) ∧ ∀ f, 0 < arrived f := by decide

omit [FloatOps F] in
theorem leaving_start : iprop((bigSep Finset.univ fun p : Fin 7 × Fin 4 => atPos ER (outCell c p.2 p.1) 0 ∅ 0)
      ∗ (bigSep Finset.univ fun p : Fin 7 × Fin 4 => dutyTok ER (outCell c p.2 p.1) 0 0)
      ∗ bigSep Finset.univ fun p : Fin 7 × Fin 4 => dutyTok ER (inCell (link σ p.2 c) p.2 p.1) 0 0)
    ⊢ all (leaving X σ c) fun _ => 0 := by
  unfold all
  rw [show bigSep Finset.univ (fun p : Fin 7 × Fin 4 => leaving X σ c 0 p.2 p.1) = _ from bigSep_congr fun p _ => leaving_before X σ c p.2 p.1 (bounds_start.1 p.2),
    bigSep_sep', bigSep_sep']
  iintro ⟨H1, H2, H3⟩
  isplitl [H2]; · iexact H2
  isplitl [H3] <;> iassumption

omit [FloatOps F] in
theorem landing_start : iprop((bigSep Finset.univ fun p : Fin 7 × Fin 4 => cred (tallyAt (inCell c p.2 p.1) () (N p.1)))
      ∗ bigSep Finset.univ fun p : Fin 7 × Fin 4 => atPos ER (inCell c p.2 p.1) 0 ∅ 0)
    ⊢ all (landing X σ c) fun _ => 0 := by
  unfold all
  rw [show bigSep Finset.univ (fun p : Fin 7 × Fin 4 => landing X σ c 0 p.2 p.1) = _ from bigSep_congr fun p _ => landing_before X σ c p.2 p.1 (bounds_start.2 p.2),
    bigSep_sep']

omit [FloatOps F] in
theorem lending_start : pool c sM ⊢ all (lending X σ c) fun _ => 0 := by
  unfold all
  rw [bigSep_univ_prod (fun p : Fin 7 × Fin 4 => lending X σ c 0 p.2 p.1)]
  refine BI.Entails.trans (pool_open (Memref.isWhole_whole _)) (bigSep_mono fun k _ => ?_)
  rw [bigSep_kinds]
  show any c (orig 0) k ⊢ iprop(any c (orig 0) k ∗ emp ∗ emp ∗ emp)
  iintro H
  isplitl; · iexact H
  isplitr; · iempintro
  isplitr <;> iempintro

omit [FloatOps F] in
theorem beyond_start : (iprop(emp) : sProp 𝕄) ⊢ all (beyond (F := F) σ c 0) fun _ => 0 := by
  unfold all
  rw [show bigSep Finset.univ (fun p : Fin 7 × Fin 4 => beyond (F := F) σ c 0 0 p.2 p.1) = _ from bigSep_congr fun p _ => beyond_early σ c p.2 p.1 (by decide)]
  exact bigSep_intro_persistent (R := iprop(emp)) (S := Finset.univ) (Φ := fun _ : Fin 7 × Fin 4 => iprop(emp)) fun _ _ => Entails.refl _

omit [FloatOps F] in
theorem offers_start : iprop(pool c zM ∗ pool c xqM ∗ pool c yqM ∗ pool c dqM) ⊢ bigSep Finset.univ fun i : Fin 5 => offer (F := F) c i := by
  rw [bigSep_hails]
  show _ ⊢ iprop((bigSep Finset.univ fun k : Fin 7 => any c zM k) ∗ emp ∗ (bigSep Finset.univ fun k : Fin 7 => any c xqM k)
    ∗ (bigSep Finset.univ fun k : Fin 7 => any c yqM k) ∗ bigSep Finset.univ fun k : Fin 7 => any c dqM k)
  iintro ⟨H1, H2, H3, H4⟩
  isplitl [H1]; · iapply (pool_open (F := F) (c := c) (M := zM) (Memref.isWhole_whole _)); iexact H1
  isplitr; · iempintro
  isplitl [H2]; · iapply (pool_open (F := F) (c := c) (M := xqM) (Memref.isWhole_whole _)); iexact H2
  isplitl [H3]; · iapply (pool_open (F := F) (c := c) (M := yqM) (Memref.isWhole_whole _)); iexact H3
  iapply (pool_open (F := F) (c := c) (M := dqM) (Memref.isWhole_whole _)); iexact H4

omit [FloatOps F] in
theorem greeting_start : iprop(cred (tallyAt (barCell c) () 5) ∗ atPos ER (barCell c) 0 ∅ 0
      ∗ (bigSep Finset.univ fun i : Fin 5 => dutyTok ER (barCell (hail σ i c)) 0 i) ∗ (bigSep Finset.univ fun i : Fin 5 => offer (F := F) c i))
    ⊢ greeting (F := F) σ c 0 := by
  unfold greeting
  rw [bigSep_congr fun (i : Fin 5) _ => if_pos (Nat.zero_le i.val), if_neg (show ¬ 0 = 6 by decide), bigSep_sep']
  iintro ⟨H1, H2, H3, H4⟩
  isplitl [H3 H4]
  · isplitl [H3] <;> iassumption
  isplitl [H1] <;> iassumption

theorem outcome_start (g : (cc0_stg2_0 : Ref sig .tc).ty.Contents (Elt F)) : outHolds c g ⊢ outcome X σ c fun _ => 0 := by
  have h : ∀ f, ¬ stored f ≤ 0 := by decide
  unfold outHolds outcome
  iintro H
  iexists g
  isplitr
  · ipureintro; exact fun f _ hf => absurd hf (h f)
  iexact H

/-- The state at the body's start. -/
theorem state_start (g : (cc0_stg2_0 : Ref sig .tc).ty.Contents (Elt F)) :
    iprop(record X σ K ∗ positions (F := F) c ∗ tokens (F := F) σ c ∗ credits (F := F) c ∗ (∃ W, owes (c : Thread nD τ) (owed σ c 0 fun _ => 0) W)
      ∗ pools (F := F) c ∗ outHolds c g ∗ operands X σ c)
    ⊢ state X σ c K 0 ![0, 0, 0, 0, 0, 0, 0] := by
  rw [show (![0, 0, 0, 0, 0, 0, 0] : Fin 7 → ℕ) = fun _ => 0 by decide]
  unfold state positions tokens credits pools
  iintro ⟨HR, ⟨Hp1, Hp2, Hp3⟩, ⟨Ht1, Ht2, Ht3⟩, ⟨Hc1, Hc2⟩, HO, ⟨Hb1, Hb⟩, Ho, Hx⟩
  isplitl [HR]; · iexact HR
  isplitl [HO]; · iexact HO
  isplitl [Hc1 Hp1 Ht1 Hb]
  · iapply (greeting_start (F := F) (σ := σ) (c := c))
    isplitl [Hc1]; · iexact Hc1
    isplitl [Hp1]; · iexact Hp1
    isplitl [Ht1]; · iexact Ht1
    iapply (offers_start (F := F) (c := c)); iexact Hb
  isplitl [Hp2 Ht2 Ht3]
  · iapply (leaving_start (X := X) (σ := σ) (c := c))
    isplitl [Hp2]; · iexact Hp2
    isplitl [Ht2] <;> iassumption
  isplitl [Hp3 Hc2]
  · iapply (landing_start (X := X) (σ := σ) (c := c))
    isplitl [Hc2] <;> iassumption
  isplitl [Hb1]
  · iapply (lending_start (X := X) (σ := σ) (c := c)); iexact Hb1
  isplitr
  · iapply (beyond_start (F := F) (σ := σ) (c := c)); iempintro
  isplitl [Ho]
  · iapply (outcome_start (X := X) (σ := σ) (c := c) g); iexact Ho
  iexact Hx

/-! ## What a device ends with -/

/-- A device's own cells at zero. -/
def zeros (c : Dev nD) : sProp 𝕄 :=
  iprop((bigSep Finset.univ fun p : Fin 7 × Fin 4 => semVal (outCell c p.2 p.1) 0) ∗ bigSep Finset.univ fun p : Fin 7 × Fin 4 => semVal (inCell c p.2 p.1) 0)

omit [FloatOps F] in
/-- A chunk of each buffer, back at its whole. -/
theorem chunk_back (k : Fin 7) :
    iprop((outPay X σ c 0 k ∗ outPay X σ c 1 k ∗ outPay X σ c 2 k ∗ outPay X σ c 3 k)
      ∗ (win c (buf 0) k (hold 0) (brought X σ 0 c) ∗ win c (buf 1) k (hold 1) (brought X σ 1 c) ∗ win c (buf 2) k (hold 2) (brought X σ 2 c)
        ∗ win c (buf 3) k (hold 3) (brought X σ 3 c)))
    ⊢ iprop(any (F := F) c sM k ∗ any c zM k ∗ any c xqM k ∗ any c yqM k ∗ any c dqM k) := by
  simp only [any_eq]
  unfold outPay
  iintro ⟨⟨Hs, H1, H2, H3⟩, H4, Hx, Hy, Hd⟩
  isplitl [Hs]; · iapply (win_forget (F := F) (c := c) (M := sM) k fullShare (carried X σ 0 c)); iexact Hs
  isplitl [H1 H2 H3 H4]
  · iapply (lease_join (F := F) (c := c) (M := zM) (PosShare.mem_left_op_right fullShare) k)
    isplitl [H1 H2]
    · iapply (lease_join (F := F) (c := c) (M := zM) (PosShare.mem_left_op_right fullShare.left) k)
      isplitl [H1]
      · iapply (win_forget (F := F) (c := c) (M := zM) k (lent 1) (carried X σ 1 c)); iexact H1
      · iapply (win_forget (F := F) (c := c) (M := zM) k (lent 2) (carried X σ 2 c)); iexact H2
    · iapply (lease_join (F := F) (c := c) (M := zM) (PosShare.mem_left_op_right fullShare.right) k)
      isplitl [H3]
      · iapply (win_forget (F := F) (c := c) (M := zM) k (lent 3) (carried X σ 3 c)); iexact H3
      · iapply (win_forget (F := F) (c := c) (M := zM) k kept (brought X σ 0 c)); iexact H4
  isplitl [Hx]; · iapply (win_forget (F := F) (c := c) (M := xqM) k fullShare (brought X σ 1 c)); iexact Hx
  isplitl [Hy]; · iapply (win_forget (F := F) (c := c) (M := yqM) k fullShare (brought X σ 2 c)); iexact Hy
  iapply (win_forget (F := F) (c := c) (M := dqM) k fullShare (brought X σ 3 c)); iexact Hd

theorem bounds_end : (∀ f, ¬ 17 < started f) ∧ (∀ f, ¬ 17 < ended f) ∧ (∀ f, ¬ 17 < arrived f) ∧ (∀ f, stored f ≤ 17) ∧ ∀ f, started f ≤ 17 := by decide

theorem pools_close : iprop((bigSep Finset.univ fun k : Fin 7 => any c sM k) ∗ (bigSep Finset.univ fun k : Fin 7 => any c zM k)
      ∗ (bigSep Finset.univ fun k : Fin 7 => any c xqM k) ∗ (bigSep Finset.univ fun k : Fin 7 => any c yqM k) ∗ bigSep Finset.univ fun k : Fin 7 => any c dqM k)
    ⊢ pools (F := F) c := by
  unfold pools
  iintro ⟨H1, H2, H3, H4, H5⟩
  isplitl [H1]; · iapply (pool_close (F := F) (c := c) (M := sM) (Memref.isWhole_whole _)); iexact H1
  isplitl [H2]; · iapply (pool_close (F := F) (c := c) (M := zM) (Memref.isWhole_whole _)); iexact H2
  isplitl [H3]; · iapply (pool_close (F := F) (c := c) (M := xqM) (Memref.isWhole_whole _)); iexact H3
  isplitl [H4]; · iapply (pool_close (F := F) (c := c) (M := yqM) (Memref.isWhole_whole _)); iexact H4
  iapply (pool_close (F := F) (c := c) (M := dqM) (Memref.isWhole_whole _)); iexact H5

/-- The buffers and the own cells, back. -/
theorem pieces_end : iprop(all (leaving X σ c) (fun _ => 17) ∗ all (landing X σ c) fun _ => 17) ⊢ iprop(pools (F := F) c ∗ zeros c) := by
  obtain ⟨h1, h2, h3, -, -⟩ := bounds_end
  unfold all
  rw [show bigSep Finset.univ (fun p : Fin 7 × Fin 4 => leaving X σ c 17 p.2 p.1) = _ from bigSep_congr fun p _ => leaving_after X σ c p.2 p.1 (h1 p.2) (h2 p.2),
    show bigSep Finset.univ (fun p : Fin 7 × Fin 4 => landing X σ c 17 p.2 p.1) = _ from bigSep_congr fun p _ => landing_after X σ c p.2 p.1 (h3 p.2),
    bigSep_sep', bigSep_sep', bigSep_univ_prod (fun p : Fin 7 × Fin 4 => outPay X σ c p.2 p.1),
    bigSep_univ_prod (fun p : Fin 7 × Fin 4 => win c (buf p.2) p.1 (hold p.2) (brought X σ p.2 c))]
  have hback : iprop((bigSep Finset.univ fun k : Fin 7 => bigSep Finset.univ fun f : Fin 4 => outPay X σ c f k)
      ∗ bigSep Finset.univ fun k : Fin 7 => bigSep Finset.univ fun f : Fin 4 => win c (buf f) k (hold f) (brought X σ f c)) ⊢ pools (F := F) c := by
    rw [← bigSep_sep']
    refine BI.Entails.trans (bigSep_mono fun k _ => by rw [bigSep_kinds, bigSep_kinds]; exact chunk_back k) ?_
    rw [bigSep_sep', bigSep_sep', bigSep_sep', bigSep_sep']
    exact pools_close
  unfold zeros
  iintro ⟨⟨H1, H2⟩, H3, H4⟩
  isplitl [H1 H3]
  · iapply hback
    isplitl [H1] <;> iassumption
  isplitl [H2] <;> iassumption

theorem owners_meet : ∀ (c : Dev nD) (q : Fin 4), ∃ f, quarter (owner f c) = q.val := by decide +kernel

/-- Every row of the result is of some quarter's chunk. -/
theorem rows_meet (c : Dev nD) (i : S1x1024x1024.Idx) : ∃ f k, rowsOf c f k (i 1).val := by
  have hi : (i 1).val < 1024 := (i 1).isLt
  obtain ⟨f, hf⟩ := owners_meet c ⟨(i 1).val / 256, by omega⟩
  obtain ⟨k, hk⟩ := chunks_meet ⟨(i 1).val % 256, Nat.mod_lt _ (by decide)⟩
  refine ⟨f, k, ?_⟩
  unfold rowsOf
  rw [hf]
  simp only at hk ⊢
  omega

theorem outcome_end : outcome X σ c (fun _ => 17) ⊢ outHolds c (result X σ c) := by
  unfold outcome outHolds
  iintro ⟨%g, %hg, H⟩
  have h : g = result X σ c := funext fun i => by
    obtain ⟨f, k, hi⟩ := rows_meet c i
    exact hg f k (bounds_end.2.2.2.1 f) i hi
  subst h
  iexact H

/-- The state at the body's end. -/
theorem state_end : state X σ c K 6 (fun _ => 17)
    ⊢ iprop((∃ W, owes (c : Thread nD τ) 0 W) ∗ (semVal (barCell c) 0 ∗ zeros c) ∗ pools (F := F) c ∗ outHolds c (result X σ c) ∗ operands X σ c) := by
  unfold state greeting
  rw [owed_end σ c 6 (by decide) fun _ f => bounds_end.2.2.2.2 f, if_pos (show 6 = 6 from rfl)]
  iintro ⟨-, HO, HG, HL, HA, -, -, Ho, Hx⟩
  ihave H := (pieces_end (X := X) (σ := σ) (c := c)) $$ [HL HA]
  · isplitl [HL] <;> iassumption
  icases H with ⟨Hb, Hz⟩
  isplitl [HO]; · iexact HO
  isplitl [HG Hz]
  · isplitl [HG]
    · icases HG with ⟨-, HG⟩
      iexact HG
    · iexact Hz
  isplitl [Hb]; · iexact Hb
  isplitl [Ho]
  · iapply (outcome_end (X := X) (σ := σ) (c := c)); iexact Ho
  iexact Hx

end Cert.Exchange

end
-- ==== Proof.Exchange.Deal.lean ====
/- What the launch deals the devices: the cells, the positions, and the tokens passed to whoever pays with them. -/
module

public import proofs.«01_k».proof.Proof.Exchange.Ends
public import proofs.«01_k».proof.Proof.Gen.KernelIdeal.Frame

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over a device's cells -/

/-- The cells of a device that copies use: a side, a kind, a chunk. -/
abbrev Side : Type := Bool × Fin 4 × Fin 7

omit [FloatOps F] in
theorem bigSep_sides (Φ : Side → sProp 𝕄) : bigSep Finset.univ Φ
    = iprop((bigSep Finset.univ fun p : Fin 7 × Fin 4 => Φ (false, p.2, p.1)) ∗ bigSep Finset.univ fun p : Fin 7 × Fin 4 => Φ (true, p.2, p.1)) := by
  rw [bigSep_univ_prod, bigSep_univ_eq_bigSepL [false, true] (by decide) (by decide)]
  show iprop((bigSep Finset.univ fun x : Fin 4 × Fin 7 => Φ (false, x)) ∗ bigSep Finset.univ fun x : Fin 4 × Fin 7 => Φ (true, x)) = _
  rw [bigSep_univ_equiv (Equiv.prodComm (Fin 7) (Fin 4)) fun x => Φ (false, x), bigSep_univ_equiv (Equiv.prodComm (Fin 7) (Fin 4)) fun x => Φ (true, x)]
  rfl

omit [FloatOps F] in
theorem bigSep_tags (Φ : Tag → sProp 𝕄) : bigSep Finset.univ Φ = iprop(Φ none ∗ bigSep Finset.univ fun x : Side => Φ (some x)) := by
  have h : (Finset.univ : Finset Tag).erase none = Finset.univ.map Function.Embedding.some := by
    ext t; cases t <;> simp
  rw [bigSep_univ_at Φ none, h, bigSep_map]
  rfl

/-! ## The cells and the tokens -/

/-- A semaphore's side, kind and chunk. -/
def sideOf (q : DmaSem sig) : Side := (lands q, kindOf q, chunkOf q)

theorem sideOf_out (f : Fin 4) (k : Fin 7) : sideOf (outSem f k) = (false, f, k) := by
  obtain ⟨h1, h2, h3, -⟩ := of_out f k; unfold sideOf; rw [h1, h2, h3]
theorem sideOf_in (f : Fin 4) (k : Fin 7) : sideOf (inSem f k) = (true, f, k) := by
  obtain ⟨h1, h2, h3, -⟩ := of_in f k; unfold sideOf; rw [h1, h2, h3]

def tagOf (g : GSem nD τ sig) : Dev nD × Tag := (g.1.1, match g.2 with | .reg _ => none | .dma q => some (sideOf q))

theorem tagOf_cellAt (x : Dev nD × Tag) : tagOf (cellAt x) = x := by
  rcases x with ⟨c, _ | ⟨_ | _, f, k⟩⟩
  · rfl
  · show (c, some (sideOf (outSem f k))) = _; rw [sideOf_out]
  · show (c, some (sideOf (inSem f k))) = _; rw [sideOf_in]
theorem cellAt_injective : Function.Injective cellAt := Function.LeftInverse.injective tagOf_cellAt

/-- The cells the exchange uses. -/
def cellsAll : Finset (GSem nD τ sig) := Finset.univ.map ⟨cellAt, cellAt_injective⟩

/-- A device's own cells' duties: its barrier's five, and every other cell's one. -/
def tokAt (x : Dev nD × (Fin 5 ⊕ Side)) : GSem nD τ sig × ℕ × Fin 5 := match x.2 with
  | .inl i => (barCell x.1, 0, i) | .inr y => (cellAt (x.1, some y), 0, 0)
def tokOf (t : GSem nD τ sig × ℕ × Fin 5) : Dev nD × (Fin 5 ⊕ Side) := (t.1.1.1, match t.1.2 with | .reg _ => .inl t.2.2 | .dma q => .inr (sideOf q))

theorem tokOf_tokAt (x : Dev nD × (Fin 5 ⊕ Side)) : tokOf (tokAt x) = x := by
  rcases x with ⟨c, i | ⟨_ | _, f, k⟩⟩
  · rfl
  · show (c, Sum.inr (sideOf (outSem f k))) = _; rw [sideOf_out]
  · show (c, Sum.inr (sideOf (inSem f k))) = _; rw [sideOf_in]
theorem tokAt_injective : Function.Injective tokAt := Function.LeftInverse.injective tokOf_tokAt

/-- The duty tokens the exchange uses. -/
def toksAll : Finset (GSem nD τ sig × ℕ × Fin 5) := Finset.univ.map ⟨tokAt, tokAt_injective⟩

/-- The launch's element: the pipeline's part and the exchange's. -/
def launched : UU := (initOf (Pipeline.cells cfgs cellOf_inj) (Pipeline.launchToks cfgs cellOf_inj), initOf cellsAll toksAll)

variable (X : Dev nD → S1x1024x1024.Idx → Elt F .bf16) (σ : Equiv.Perm (Fin 4))

/-- The tokens of a device's own cells. -/
def minted (c : Dev nD) : sProp 𝕄 :=
  iprop((bigSep Finset.univ fun i : Fin 5 => dutyTok ER (barCell c) 0 i)
    ∗ (bigSep Finset.univ fun p : Fin 7 × Fin 4 => dutyTok ER (outCell c p.2 p.1) 0 0)
    ∗ bigSep Finset.univ fun p : Fin 7 × Fin 4 => dutyTok ER (inCell c p.2 p.1) 0 0)

/-- What the launch's element deals a device. -/
def dealt (c : Dev nD) : sProp 𝕄 :=
  iprop((bigSep Finset.univ fun t : Tag => roundState ER (sched X σ) (cellAt (c, t)) 0)
    ∗ ((bigSep Finset.univ fun t : Tag => atPos ER (cellAt (c, t)) 0 ∅ 0) ∗ bigSep Finset.univ fun t : Tag => reached ER (cellAt (c, t)) 0) ∗ minted c)

/-- What a device starts from, once the cells' invariants are made. -/
def readied (c : Dev nD) : sProp 𝕄 :=
  iprop(∃ K : Dev nD × Tag → ℕ, (bigSep Finset.univ fun x : Dev nD × Tag => cellInv ER (sched X σ) (K x) (cellAt x))
    ∗ (bigSep Finset.univ fun x : Dev nD × Tag => reached ER (cellAt x) 0) ∗ positions (F := F) c ∗ tokens (F := F) σ c)

omit [FloatOps F] in
theorem cells_split (Φ : GSem nD τ sig → sProp 𝕄) : bigSep cellsAll Φ = bigSep Finset.univ fun c : Dev nD => bigSep Finset.univ fun t : Tag => Φ (cellAt (c, t)) := by
  unfold cellsAll; rw [bigSep_map, bigSep_univ_prod]; rfl

omit [FloatOps F] in
theorem toks_split : bigSep toksAll (fun x => (dutyTok ER x.1 x.2.1 x.2.2 : sProp 𝕄)) = bigSep Finset.univ fun c : Dev nD => minted (F := F) c := by
  unfold toksAll; rw [bigSep_map, bigSep_univ_prod]
  refine bigSep_congr fun c _ => ?_
  unfold minted
  rw [bigSep_univ_sum, bigSep_sides]
  rfl

omit [FloatOps F] in
/-- The exchange's element, dealt. -/
theorem deal : BI.own (ER (initOf cellsAll toksAll)) ⊢ (|==> bigSep Finset.univ (dealt X σ) : sProp 𝕄) := by
  iintro H
  imod (Rounds.fund ER (sched X σ) cellsAll toksAll) $$ H with ⟨Hst, Hr, Hat, Htok⟩
  imodintro
  ihave Hst := (Entails.of_eq (cells_split fun g => roundState ER (sched X σ) g 0)) $$ Hst
  ihave Hat := (Entails.of_eq (cells_split (F := F) fun g => atPos ER g 0 ∅ 0)) $$ Hat
  ihave Hr := (Entails.of_eq (cells_split (F := F) fun g => reached ER g 0)) $$ Hr
  ihave Htok := (Entails.of_eq (toks_split (F := F))) $$ Htok
  unfold dealt
  rw [bigSep_sep', bigSep_sep', bigSep_sep']
  isplitl [Hst]; · iexact Hst
  isplitl [Hat Hr]
  · isplitl [Hat] <;> iassumption
  iexact Htok

/-! ## The semaphores and the invariants -/

/-- The kernel's own semaphores. -/
abbrev osem : Side → SemLoc sig := fun x => match x with | (false, f, k) => .dma (outSem f k) | (true, f, k) => .dma (inSem f k)

omit [FloatOps F] in
theorem ownSems_eq (c : Dev nD) : (Pipeline.ownSems0 (Ix := Unit) (Name := ℕ) (U := UU) (Lvl := ℕ) (Val := Elt F) (τ := τ) osem c : sProp 𝕄) = zeros c := by
  unfold Pipeline.ownSems0 zeros
  exact bigSep_sides _

omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) : (bigSep Finset.univ fun t : Tag => semVal (cellAt (c, t)) 0 : sProp 𝕄)
    = iprop(semVal (barCell c) 0 ∗ zeros c) := by
  rw [bigSep_tags, bigSep_sides]; rfl

omit [FloatOps F] in
theorem device_alloc (c : Dev nD) :
    iprop(Pipeline.ownSems0 (Ix := Unit) (Name := ℕ) (U := UU) (Lvl := ℕ) (Val := Elt F) (τ := τ) osem c ∗ unscopedSems0 c ∗ dealt X σ c)
      ⊢ |={Set.univ}=> iprop((bigSep Finset.univ fun t : Tag => iprop(∃ κ : ℕ, cellInv ER (sched X σ) κ (cellAt (c, t))))
          ∗ ((bigSep Finset.univ fun t : Tag => atPos ER (cellAt (c, t)) 0 ∅ 0) ∗ bigSep Finset.univ fun t : Tag => reached ER (cellAt (c, t)) 0) ∗ minted c) := by
  unfold dealt
  rw [ownSems_eq, unscopedSems_eq]
  iintro ⟨Hos, Hus, Hst, Hat, Htok⟩
  ihave Hv := (Entails.of_eq (sems_eq (F := F) c).symm) $$ [Hos Hus]
  · isplitl [Hus] <;> iassumption
  imod (show iprop((bigSep Finset.univ fun t : Tag => semVal (cellAt (c, t)) 0) ∗ bigSep Finset.univ fun t : Tag => roundState ER (sched X σ) (cellAt (c, t)) 0)
      ⊢ (|={Set.univ}=> bigSep Finset.univ fun t : Tag => iprop(∃ κ : ℕ, cellInv ER (sched X σ) κ (cellAt (c, t))) : sProp 𝕄) from by
        rw [← bigSep_sep']
        exact (bigSep_mono fun t _ => (Rounds.body_intro ER (sched X σ) (cellAt (c, t))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Each token to the device that pays with it: a barrier's to the one that signals it, a landing cell's to the one that copies there. -/
theorem tokens_around : (bigSep Finset.univ fun c : Dev nD => minted (F := F) c) ⊢ bigSep Finset.univ fun c : Dev nD => tokens (F := F) σ c := by
  have hb : (bigSep Finset.univ fun c : Dev nD => bigSep Finset.univ fun i : Fin 5 => (dutyTok ER (barCell c) 0 i : sProp 𝕄))
      = bigSep Finset.univ fun c : Dev nD => bigSep Finset.univ fun i : Fin 5 => dutyTok ER (barCell (hail σ i c)) 0 i := by
    rw [bigSep_univ_comm, bigSep_univ_comm (fun (c : Dev nD) (i : Fin 5) => (dutyTok ER (barCell (hail σ i c)) 0 i : sProp 𝕄))]
    exact bigSep_congr fun i _ => bigSep_univ_equiv (hail σ i) fun c : Dev nD => (dutyTok ER (barCell c) 0 i : sProp 𝕄)
  have hi : (bigSep Finset.univ fun c : Dev nD => bigSep Finset.univ fun p : Fin 7 × Fin 4 => (dutyTok ER (inCell c p.2 p.1) 0 0 : sProp 𝕄))
      = bigSep Finset.univ fun c : Dev nD => bigSep Finset.univ fun p : Fin 7 × Fin 4 => dutyTok ER (inCell (link σ p.2 c) p.2 p.1) 0 0 := by
    rw [bigSep_univ_comm, bigSep_univ_comm (fun (c : Dev nD) (p : Fin 7 × Fin 4) => (dutyTok ER (inCell (link σ p.2 c) p.2 p.1) 0 0 : sProp 𝕄))]
    exact bigSep_congr fun p _ => bigSep_univ_equiv (link σ p.2) fun c : Dev nD => (dutyTok ER (inCell c p.2 p.1) 0 0 : sProp 𝕄)
  unfold minted tokens
  rw [bigSep_sep', bigSep_sep', bigSep_sep', bigSep_sep', hb, hi]

omit [FloatOps F] in
theorem positions_eq (c : Dev nD) : (bigSep Finset.univ fun t : Tag => (atPos ER (cellAt (c, t)) 0 ∅ 0 : sProp 𝕄)) = positions (F := F) c := by
  rw [bigSep_tags, bigSep_sides]; rfl

omit [FloatOps F] in
theorem beside {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What every device is told. -/
def told (K : Dev nD × Tag → ℕ) : sProp 𝕄 :=
  iprop((bigSep Finset.univ fun x : Dev nD × Tag => cellInv ER (sched X σ) (K x) (cellAt x)) ∗ bigSep Finset.univ fun x : Dev nD × Tag => reached ER (cellAt x) 0)

omit [FloatOps F] in
instance told_persistent (K : Dev nD × Tag → ℕ) : BI.Persistent (told X σ K) := by unfold told; infer_instance

omit [FloatOps F] in
theorem readied_intro (K : Dev nD × Tag → ℕ) (c : Dev nD) : iprop(told X σ K ∗ positions (F := F) c ∗ tokens (F := F) σ c) ⊢ readied X σ c := by
  unfold told readied
  iintro ⟨⟨HI, HR⟩, Hp, Ht⟩
  iexists K
  isplitl [HI]; · iexact HI
  isplitl [HR]; · iexact HR
  isplitl [Hp] <;> iassumption

omit [FloatOps F] in
theorem regroup :
    (bigSep Finset.univ fun c : Dev nD => iprop((bigSep Finset.univ fun t : Tag => iprop(∃ κ : ℕ, cellInv ER (sched X σ) κ (cellAt (c, t))))
          ∗ ((bigSep Finset.univ fun t : Tag => atPos ER (cellAt (c, t)) 0 ∅ 0) ∗ bigSep Finset.univ fun t : Tag => reached ER (cellAt (c, t)) 0) ∗ minted c) : sProp 𝕄)
      ⊢ bigSep Finset.univ (readied X σ) := by
  rw [bigSep_sep', bigSep_sep', bigSep_sep', ← bigSep_univ_prod (fun x : Dev nD × Tag => iprop(∃ κ : ℕ, cellInv ER (sched X σ) κ (cellAt x))),
    ← bigSep_univ_prod (fun x : Dev nD × Tag => (reached ER (cellAt x) 0 : sProp 𝕄)), bigSep_congr (s := Finset.univ) fun (c : Dev nD) _ => positions_eq (F := F) c]
  iintro ⟨HI, ⟨Hat, HR⟩, Htok⟩
  ihave HK := (BI.bigSep_exists_pi Finset.univ (fun (x : Dev nD × Tag) (κ : ℕ) => (cellInv ER (sched X σ) κ (cellAt x) : sProp 𝕄))) $$ HI
  icases HK with ⟨%K, HI⟩
  ihave Htk := (tokens_around (F := F) σ) $$ Htok
  iapply (beside (R := told X σ K) fun c _ => readied_intro X σ K c)
  isplitl [HI HR]
  · unfold told; isplitl [HI] <;> iassumption
  · rw [bigSep_sep']
    isplitl [Hat] <;> iassumption

omit [FloatOps F] in
/-- Every device's semaphores and what it was dealt, made into what it starts from. -/
theorem ready_all : (bigSep Finset.univ fun c => iprop(Pipeline.ownSems0 (Ix := Unit) (Name := ℕ) (U := UU) (Lvl := ℕ) (Val := Elt F) (τ := τ) osem c ∗ unscopedSems0 c ∗ dealt X σ c) : sProp 𝕄)
    ⊢ |={Set.univ}=> bigSep Finset.univ (readied X σ) :=
  ((bigSep_mono fun c _ => device_alloc X σ c).trans (bigSep_fupd _ _)).trans (BI.fupd_mono (regroup X σ))

end Cert.Exchange

end
-- ==== Proof.Exchange.Credits.lean ====
/- The credits a launch deals a device: what the devices together owe its cells. -/
module

public import proofs.«01_k».proof.Proof.Exchange.Deal

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (σ : Equiv.Perm (Fin 4))

/-- What a device owes at the launch. -/
def owedFirst (c : Dev nD) : CellTallies nD τ sig Unit := owed σ c 0 fun _ => 0

theorem owedFirst_at (d : Dev nD) (g : GSem nD τ sig) : owedFirst σ d g ()
    = (∑ p : Fin 7 × Fin 4, if g = inCell (link σ p.2 d) p.2 p.1 then N p.1 else 0) + ∑ i : Fin 5, if g = barCell (hail σ i d) then 1 else 0 := by
  unfold owedFirst owed owedIn owedBar
  rw [Pi.add_apply, Finsupp.add_apply, Finset.sum_apply, Finset.sum_apply, Finsupp.finset_sum_apply, Finsupp.finset_sum_apply]
  refine congrArg₂ _ (Finset.sum_congr rfl fun p _ => ?_) (Finset.sum_congr rfl fun i _ => ?_)
  · rw [if_pos (bounds_start.1 p.2), tallyAt_apply]; simp only [and_true]
  · rw [if_pos (Nat.zero_le _), tallyAt_apply]; simp only [and_true]

/-- What all the devices owe a cell. -/
theorem owedFirst_sum (g : GSem nD τ sig) : ∑ d : Dev nD, owedFirst σ d g ()
    = (∑ p : Fin 7 × Fin 4, ∑ d : Dev nD, if g = inCell d p.2 p.1 then N p.1 else 0) + ∑ i : Fin 5, ∑ d : Dev nD, if g = barCell d then 1 else 0 := by
  rw [Finset.sum_congr rfl fun d _ => owedFirst_at σ d g, Finset.sum_add_distrib, Finset.sum_comm, Finset.sum_comm (t := (Finset.univ : Finset (Fin 5)))]
  refine congrArg₂ _ (Finset.sum_congr rfl fun p _ => ?_) (Finset.sum_congr rfl fun i _ => ?_)
  · exact Equiv.sum_comp (link σ p.2) fun d => if g = inCell d p.2 p.1 then N p.1 else 0
  · exact Equiv.sum_comp (hail σ i) fun d => if g = barCell d then 1 else 0

theorem bar_ne_in (c d : Dev nD) (f : Fin 4) (k : Fin 7) : barCell c ≠ inCell d f k := fun h => by
  have := cellAt_injective (a₁ := (c, none)) (a₂ := (d, some (true, f, k))) h
  simp at this
theorem bar_iff (c d : Dev nD) : barCell c = barCell d ↔ c = d :=
  ⟨fun h => congrArg Prod.fst (cellAt_injective (a₁ := (c, none)) (a₂ := (d, none)) h), fun h => h ▸ rfl⟩
theorem in_iff (c d : Dev nD) (f g : Fin 4) (k l : Fin 7) : inCell c f k = inCell d g l ↔ c = d ∧ f = g ∧ k = l :=
  ⟨fun h => by
    have := cellAt_injective (a₁ := (c, some (true, f, k))) (a₂ := (d, some (true, g, l))) h
    simpa using this, fun ⟨h1, h2, h3⟩ => by rw [h1, h2, h3]⟩

theorem credit_bar (c : Dev nD) : ∑ d : Dev nD, owedFirst σ d (barCell c) () = 5 := by
  rw [owedFirst_sum, Finset.sum_eq_zero (fun p _ => Finset.sum_eq_zero fun d _ => if_neg (bar_ne_in c d p.2 p.1)), Nat.zero_add,
    Finset.sum_congr rfl fun i _ => (Finset.sum_congr rfl fun d _ => if_congr (bar_iff c d) rfl rfl).trans
      ((Finset.sum_ite_eq Finset.univ c fun _ => 1).trans (if_pos (Finset.mem_univ c))),
    Finset.sum_const, Finset.card_univ, Fintype.card_fin, smul_eq_mul]

theorem credit_in (c : Dev nD) (f : Fin 4) (k : Fin 7) : ∑ d : Dev nD, owedFirst σ d (inCell c f k) () = N k := by
  rw [owedFirst_sum, Finset.sum_eq_zero (s := (Finset.univ : Finset (Fin 5))) (fun i _ => Finset.sum_eq_zero fun d _ => if_neg (bar_ne_in d c f k).symm), Nat.add_zero,
    Finset.sum_eq_single (k, f)]
  · exact (Finset.sum_congr rfl fun d _ => if_congr ((in_iff c d f f k k).trans (and_iff_left ⟨rfl, rfl⟩)) rfl rfl).trans
      ((Finset.sum_ite_eq Finset.univ c fun _ => N k).trans (if_pos (Finset.mem_univ c)))
  · refine fun p _ hp => Finset.sum_eq_zero fun d _ => if_neg fun h => hp ?_
    obtain ⟨-, h1, h2⟩ := (in_iff c d f p.2 k p.1).mp h
    exact Prod.ext h2.symm h1.symm
  · exact fun h => absurd (Finset.mem_univ _) h

theorem launch_bar (c : Dev nD) :
    tallyOn (barCell c) (launchCredit (Pipeline.owing (owedFirst σ)) 0 (barCell c)) = (tallyAt (barCell c) () 5 : CellTallies nD τ sig Unit) := by
  unfold tallyAt
  refine congrArg _ (Finsupp.ext fun u => ?_)
  cases u
  rw [Pipeline.launchCredit_owing, Finsupp.single_eq_same, credit_bar]

theorem launch_in (c : Dev nD) (f : Fin 4) (k : Fin 7) :
    tallyOn (inCell c f k) (launchCredit (Pipeline.owing (owedFirst σ)) 0 (inCell c f k)) = (tallyAt (inCell c f k) () (N k) : CellTallies nD τ sig Unit) := by
  unfold tallyAt
  refine congrArg _ (Finsupp.ext fun u => ?_)
  cases u
  rw [Pipeline.launchCredit_owing, Finsupp.single_eq_same, credit_in]

/-- The semaphore of a copy landing, by chunk and kind. -/
def landingSem : Fin 7 × Fin 4 ↪ SemLoc sig :=
  ⟨fun p => .dma (inSem p.2 p.1), fun p q h => by
    obtain ⟨-, h1, h2⟩ := (in_iff ⟨0, by decide⟩ ⟨0, by decide⟩ p.2 q.2 p.1 q.1).mp (congrArg (fun s : SemLoc sig => (((⟨0, by decide⟩ : Dev nD) : Thread nD τ), s)) h)
    exact Prod.ext h2 h1⟩

omit [FloatOps F] in
/-- The launch's credits, as a device starts from them. -/
theorem credits_dealt (c : Dev nD) : (Pipeline.launchCred (owedFirst σ) c : sProp 𝕄) ⊢ credits (F := F) c := by
  unfold Pipeline.launchCred credits
  rw [bigSep_univ_at _ (SemLoc.reg barS), launch_bar]
  refine sep_mono_right ?_
  have hs : Finset.univ.map landingSem ⊆ (Finset.univ : Finset (SemLoc sig)).erase (SemLoc.reg barS) := fun x hx => by
    obtain ⟨p, -, rfl⟩ := Finset.mem_map.mp hx
    exact Finset.mem_erase.mpr ⟨fun h => (nomatch h), Finset.mem_univ _⟩
  refine BI.Entails.trans (bigSep_subset hs) ?_
  rw [bigSep_map]
  exact bigSep_mono fun p _ => Entails.of_eq (congrArg cred (launch_in σ c p.2 p.1))

end Cert.Exchange

end
-- ==== Proof.Exchange.Block.lean ====
/- The one point of the kernel's pipeline: every window is its whole array. -/
module

public import proofs.«01_k».proof.Proof.Exchange.Schedule
public import proofs.«01_k».proof.Proof.Gen.KernelIdeal.Points
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

omit [FloatOps F] in
theorem read_block_0 (t : Fin cfg0.N) (f : S1x1024x1024.Idx → Elt F .bf16) : ((cfg0.win 0).blk t).view.read (Elt F) f = f := by
  refine funext fun y => ?_
  rw [View.read_apply]
  exact congrArg f (funext fun a => Fin.ext (win0_0.rect_emb_val_of_index_zero t a rfl y))

omit [FloatOps F] in
theorem read_block_1 (t : Fin cfg0.N) (f : S4.Idx → Elt F .i32) : ((cfg0.win 1).blk t).view.read (Elt F) f = f := by
  refine funext fun y => ?_
  rw [View.read_apply]
  exact congrArg f (funext fun a => Fin.ext (win0_1.rect_emb_val_of_index_zero t a rfl y))

omit [FloatOps F] in
theorem read_block_2 (t : Fin cfg0.N) (f : S1x1024x1024.Idx → Elt F .f32) : ((cfg0.win 2).blk t).view.read (Elt F) f = f := by
  refine funext fun y => ?_
  rw [View.read_apply]
  exact congrArg f (funext fun a => Fin.ext (win0_2.rect_emb_val_of_index_zero t a rfl y))

/-- Every element of the result lies in the block. -/
theorem block_2_cover (i : S1x1024x1024.Idx) : ∃ t : Fin cfg0.N, (cfg0.win 2).flush t = true ∧ i ∈ ((cfg0.win 2).blk t).view.set := by
  refine ⟨t0_0, flush0_2 _, ?_⟩
  have h : ((cfg0.win 2).blk t0_0).view.emb i = i := funext fun a => Fin.ext (win0_2.rect_emb_val_of_index_zero t0_0 a rfl i)
  exact h ▸ View.emb_mem_set ((cfg0.win 2).blk t0_0).view i

end Cert.Exchange

end
-- ==== Proof.Exchange.Run.lean ====
/- The launch: from any memory whose second argument holds the order on every device, the kernel runs to its result. -/
module

public import proofs.«01_k».proof.Proof.Exchange.Credits
public import proofs.«01_k».proof.Proof.Exchange.Block
public import Idealize.ShloMosaic.Lib.Pipeline.Launch
public import Idealize.ShloMosaic.Lib.Pipeline.CollectiveSegs
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (σ : Equiv.Perm (Fin 4))

/-- The block of the first argument a device holds. -/
def given (c : Dev nD) : S1x1024x1024.Idx → Elt F .bf16 := m ((c : Thread nD τ).loc main_arg0)

/-- What a device's body starts from, beside its buffers. -/
def begun (c : Dev nD) : sProp 𝕄 := iprop(readied (given m) σ c ∗ credits (F := F) c ∗ levAts L lv)

/-- What a device's body starts from. -/
def before (c : Dev nD) : sProp 𝕄 := iprop(begun m σ c ∗ pools (F := F) c)
/-- What a device's body ends with. -/
def after (c : Dev nD) : sProp 𝕄 := iprop((semVal (barCell c) 0 ∗ zeros c) ∗ pools (F := F) c)

/-- The pipeline's data of a device. -/
def dats (_ : Fin 1) (c : Dev nD) : Dat τ (Elt F) Unit ℕ UU ℕ cfg0 c where
  A w := m ((cfg0.win w).arr.view.loc (c : Thread nD τ))
  after w _ := match w with
    | ⟨0, _⟩ => (given m c : S1x1024x1024.Idx → Elt F .bf16)
    | ⟨1, _⟩ => (words σ : S4.Idx → Elt F .i32)
    | ⟨2, _⟩ => (result (given m) σ c : S1x1024x1024.Idx → Elt F .f32)
    | ⟨_ + 3, h⟩ => absurd h (Nat.not_lt.2 (Nat.le_add_left _ _))
  Φ t := match t with
    | ⟨0, _⟩ => before m σ c
    | ⟨_ + 1, _⟩ => after c
  q _ := fullShare
  owed t := match t with
    | ⟨0, _⟩ => owedFirst σ c
    | ⟨_ + 1, _⟩ => 0

omit [FloatOps F] in
theorem owns_all (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- A staging buffer at given contents. -/
abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

def bodyPre (c : Dev nD) : sProp 𝕄 :=
  iprop(before m σ c ∗ (dats m σ 0 c).owesAt () t0_0.castSucc
    ∗ (∃ d, stg c cc0_stg0_0 ((dats m σ 0 c).before (0 : Fin 3) t0_0 d))
    ∗ (∃ d, stg c cc0_stg1_0 ((dats m σ 0 c).before (1 : Fin 3) t0_0 d))
    ∗ (∃ d, stg c cc0_stg2_0 ((dats m σ 0 c).before (2 : Fin 3) t0_0 d)))

def bodyPost (c : Dev nD) : sProp 𝕄 :=
  iprop(after c ∗ (dats m σ 0 c).owesAt () t0_0.succ
    ∗ stg c cc0_stg0_0 (given m c) ∗ stg c cc0_stg1_0 (words σ) ∗ stg c cc0_stg2_0 (result (given m) σ c))

variable (hπ : ∀ c : Dev nD, m ((c : Thread nD τ).loc main_arg1) = words σ)

theorem staged_0 (c : Dev nD) (d) : (dats m σ 0 c).before (0 : Fin 3) t0_0 d = given m c := by
  unfold Dat.before; rw [if_pos (fetch0_0 t0_0)]
  exact read_block_0 t0_0 (given m c)
include hπ in
theorem staged_1 (c : Dev nD) (d) : (dats m σ 0 c).before (1 : Fin 3) t0_0 d = words σ := by
  unfold Dat.before; rw [if_pos (fetch0_1 t0_0)]
  exact (read_block_1 t0_0 (m ((c : Thread nD τ).loc main_arg1))).trans (hπ c)

/-- From a body's start to the first state. -/
theorem enter (c : Dev nD) (K : Dev nD × Tag → ℕ) (W) (g : (cc0_stg2_0 : Ref sig .tc).ty.Contents (Elt F)) :
    iprop((bigSep Finset.univ fun x : Dev nD × Tag => cellInv ER (sched (given m) σ) (K x) (cellAt x))
      ∗ (bigSep Finset.univ fun x : Dev nD × Tag => reached ER (cellAt x) 0) ∗ (positions (F := F) c ∗ tokens (F := F) σ c)
      ∗ credits (F := F) c ∗ levAts L lv ∗ pools (F := F) c ∗ owes (c : Thread nD τ) (owedFirst σ c) W
      ∗ (((c : Thread nD τ).loc cc0_stg0_0) ↦{fullShare} given m c) ∗ (((c : Thread nD τ).loc cc0_stg1_0) ↦{fullShare} words σ)
      ∗ (((c : Thread nD τ).loc cc0_stg2_0) ↦{fullShare} g))
    ⊢ state (given m) σ c K 0 ![0, 0, 0, 0, 0, 0, 0] := by
  iintro ⟨HI, HR, ⟨Hp, Ht⟩, Hc, Hl, Hb, Ho, Hx, Hw, Hg⟩
  iapply (state_start g)
  isplitl [HI HR Hl]
  · unfold record
    isplitl [HI]; · iexact HI
    isplitl [HR] <;> iassumption
  isplitl [Hp]; · iexact Hp
  isplitl [Ht]; · iexact Ht
  isplitl [Hc]; · iexact Hc
  isplitl [Ho]; · iexists W; iexact Ho
  isplitl [Hb]; · iexact Hb
  isplitl [Hg]; · unfold outHolds; iexact Hg
  unfold operands
  isplitl [Hx] <;> iassumption

/-- From the last state to a body's end. -/
theorem leave (c : Dev nD) (K : Dev nD × Tag → ℕ) : state (given m) σ c K 6 (fun _ => 17) ⊢ bodyPost m σ c := by
  unfold bodyPost after Dat.owesAt Pipeline.owesWithin
  rw [show (dats m σ 0 c).owed t0_0.succ = 0 from rfl]
  iintro H
  ihave H := state_end $$ H
  unfold operands outHolds
  icases H with ⟨⟨%W, Ho⟩, Hz, Hb, Hg, Hx, Hw⟩
  isplitl [Hz Hb]; · isplitl [Hz] <;> iassumption
  isplitl [Ho]
  · iexists W
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  iexists _; isplitr; · (ipureintro; rfl)
  iexact Hg

include hπ in
/-- What a body starts from, with the names of the invariants and the contents of the buffers known. -/
theorem start_state (c : Dev nD) : bodyPre m σ c ⊢ iprop(∃ K : Dev nD × Tag → ℕ, state (given m) σ c K 0 ![0, 0, 0, 0, 0, 0, 0]) := by
  unfold bodyPre before begun readied Dat.owesAt Pipeline.owesWithin
  rw [show (dats m σ 0 c).owed t0_0.castSucc = owedFirst σ c from rfl]
  iintro ⟨⟨⟨⟨%K, HI, HR, Hp⟩, Hc, Hl⟩, Hb⟩, ⟨%W, %hW, Ho⟩, ⟨%d0, %g0, %e0, Hx⟩, ⟨%d1, %g1, %e1, Hw⟩, ⟨%d2, %g2, %e2, Hg⟩⟩
  have e0' : g0 = given m c := e0.trans (staged_0 m σ c d0)
  have e1' : g1 = words σ := e1.trans (staged_1 m σ hπ c d1)
  subst e0' e1'
  iexists K
  iapply (enter m σ c K W g2)
  isplitl [HI]; · iexact HI
  isplitl [HR]; · iexact HR
  isplitl [Hp]; · iexact Hp
  isplitl [Hc]; · iexact Hc
  isplitl [Hl]; · iexact Hl
  isplitl [Hb]; · iexact Hb
  isplitl [Ho]; · iexact Ho
  isplitl [Hx]; · iexact Hx
  isplitl [Hw] <;> iassumption

theorem runs_post (c : Dev nD) (K : Dev nD × Tag → ℕ) : state (given m) σ c K 0 ![0, 0, 0, 0, 0, 0, 0]
    ⊢ wp frame (wpE (defs₀ (F := F)) 𝒱₀ (c : Thread nD τ) none) Set.univ (bodyAt0 t0_0) (fun _ => bodyPost m σ c) := by
  have h : Runs c (state (given m) σ c K 0 ![0, 0, 0, 0, 0, 0, 0]) (bodyAt0 t0_0) (fun _ => True) (state (given m) σ c K 6 fun _ => 17) := body_runs
  unfold Runs at h
  refine BI.Entails.trans h (wp_mono _ _ _ ?_)
  intro v
  iintro ⟨-, H⟩
  iapply (leave m σ c K)
  iexact H

include hπ in
theorem body_sound (c : Dev nD) : bodyPre m σ c
    ⊢ wp frame (wpE (defs₀ (F := F)) 𝒱₀ (c : Thread nD τ) none) Set.univ (bodyAt0 t0_0) (fun _ => bodyPost m σ c) := by
  iintro H
  ihave H := (start_state m σ hπ c) $$ H
  icases H with ⟨%K, H⟩
  iapply (runs_post m σ c K)
  iexact H

include hπ in
set_option maxRecDepth 40000 in
/-- The body of a device, as the pipeline runs it. -/
theorem body_obligation (c : Dev nD) : BodyObligation (dats m σ 0 c) (defs₀ (F := F)) 𝒱₀ () Set.univ := fun t => by
  rw [fin_N0 t]
  rw [bigSep_W0, bigSep_W0]
  simp only [owns_all]
  exact body_sound m σ hπ c

/-! ## The launch's conditions -/

theorem osem_facts : Pipeline.OwnSemFacts cfg0.spec osem := by decide +kernel

theorem share_full (c : Dev nD) (w : Fin cfg0.W) : (dats m σ 0 c).share w = fullShare := Dat.share_full _ (fun _ => rfl) w

theorem begin_intro (c : Dev nD) :
    iprop(Pipeline.unscopedRestP Pipeline.Prefetch.none cfg0.spec c (fun b => m ((c : Thread nD τ).loc b)) ∗ levAts L lv
        ∗ Pipeline.launchCred (owedFirst σ) c ∗ prngReg c (ρ c) ∗ readied (given m) σ c)
      ⊢ |={Set.univ}=> iprop(begun m σ c ∗ emp) := by
  iintro ⟨-, Hl, Hc, -, Hr⟩
  ihave Hc := (credits_dealt (F := F) σ c) $$ Hc
  imodintro
  unfold begun
  isplitl
  · isplitl [Hr]; · iexact Hr
    isplitl [Hc] <;> iassumption
  · iempintro

omit [FloatOps F] in
theorem rest_pools (c : Dev nD) : (Pipeline.scopedRest (Ix := Unit) (Name := ℕ) (U := UU) (Lvl := ℕ) (Val := Elt F) (τ := τ) cfg0.spec c : sProp 𝕄) = pools c := by
  rw [scopedRest0_eq]; rfl

theorem before_intro (c : Dev nD) :
    iprop(begun m σ c ∗ Pipeline.prefHeld Pipeline.Prefetch.none c (fun _ => fullShare.right) (fun k => k.elim0) ∗ Pipeline.scopedRest cfg0.spec c)
      ⊢ (dats m σ 0 c).Φ 0 := by
  rw [show (dats m σ 0 c).Φ 0 = before m σ c from rfl, rest_pools]
  unfold before
  iintro ⟨Hs, -, Hr⟩
  isplitl [Hs] <;> iassumption

theorem after_exit (c : Dev nD) :
    (dats m σ 0 c).Φ (Fin.last cfg0.N) ⊢ iprop(unscopedSems0 c ∗ Pipeline.ownSems0 osem c ∗ Pipeline.scopedRest cfg0.spec c) := by
  rw [show (dats m σ 0 c).Φ (Fin.last cfg0.N) = after c from rfl, rest_pools, ownSems_eq, unscopedSems_eq]
  unfold after
  iintro ⟨⟨Hz, Hzs⟩, Hr⟩
  isplitl [Hz]; · iexact Hz
  isplitl [Hzs] <;> iassumption

theorem waits (c : Dev nD) : (levAts L lv : sProp 𝕄) ⊢ Pipeline.cellsWaits cfgs (dats m σ) () 0 c :=
  Pipeline.cellsWaits_intro cfgs (dats m σ) () 0 c fun w s t => by
    rcases t with ⟨_ | _, ht⟩
    · refine may_wait σ c 0 _ 0 ?_ (fun p _ => by split <;> decide) fun _ _ => by decide
      fin_cases w <;> fin_cases s <;> exact Nat.le_refl 0
    · rw [show (dats m σ 0 c).owed ⟨_ + 1, ht⟩ = 0 from rfl, MayWait_zero]
      iintro -
      iempintro

/-! ## The run -/

set_option maxRecDepth 40000 in
include hπ in
theorem run_windows : θ_run defs (onTc (τ := τ) (main (F := F))) ⟨m, fun _ => 0, ρ⟩ (fun r =>
    (∀ (c : Dev nD) (w : Fin cfg0.W), r.2.mem ((cfg0.win w).arr.view.loc (c : Thread nD τ)) = (dats m σ 0 c).arrAt w cfg0.N) ∧ r.2.sem = fun _ => 0) :=
  Pipeline.θ_run_region_owing_glob_pf (fun p => (cfgs p).toPCfg) (fun p => (cfgs p).toPCfg_adm) (dats m σ) () cellOf_inj (0 : Fin 1)
    winFacts0.to₀ osem_facts (Pipeline.PreFacts.none _) EP defs₀ 𝒱₀ m ρ main
    (hmain := fun _ => rfl)
    (hbody := body_obligation m σ hπ) (hne := fun w => by fin_cases w <;> exact Nat.succ_pos _) (harr := arr_whole0) (hstage := stage_whole0)
    (hshare := share_full m σ) (hdistinct := winFacts0.arr_inj)
    (O₀ := owedFirst σ) (howed₀ := fun _ => rfl) (howedN := fun _ => rfl)
    (L := L) (lv := lv) (hL := L_of_ne) (hwaits := waits m σ)
    (G := dealt (given m) σ) (G' := readied (given m) σ) (u₀ := launched)
    (hu₀ := by
      unfold launched
      iintro Hu
      ihave H := (ownU_pair _ _) $$ Hu
      icases H with ⟨HP, HX⟩
      imod (deal (given m) σ) $$ HX with HG
      imodintro
      isplitl [HP] <;> iassumption)
    (hglob := ready_all (given m) σ)
    (hA := fun _ _ => rfl) (hpf := fun _ k => k.elim0)
    (X := begun m σ) (Y := fun c => unscopedSems0 c) (Z := fun _ => iprop(emp))
    (hX := begin_intro m ρ σ) (hin := before_intro m σ) (hout := after_exit m σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's array at the end. -/
theorem final_2 (c : Dev nD) : (dats m σ 0 c).arrAt 2 cfg0.N = result (given m) σ c :=
  (dats m σ 0 c).arrAt_eq_of_cover 2 (result (given m) σ c) (fun t _ => by
    have e : (dats m σ 0 c).after 2 t = result (given m) σ c := by dsimp only [dats]
    unfold Dat.flushed
    rw [e]
    exact (read_block_2 t (result (given m) σ c)).symm) block_2_cover

include hπ in
/-- From any memory in which every device's second argument holds the order, with every semaphore at zero: every device
    ends with its arguments as they were, its result at the rows gathered, and every semaphore at zero. -/
theorem run_main : θ_run defs (onTc (τ := τ) (main (F := F))) ⟨m, fun _ => 0, ρ⟩ (fun r => (∀ c : Dev nD,
    r.2.mem ((c : Thread nD τ).loc main_v1) = result (given m) σ c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun _ h => ⟨fun c => ⟨(h.1 c 2).trans (final_2 m σ c), (h.1 c 0).trans ((dats m σ 0 c).arrAt_in 0 rfl _),
    (h.1 c 1).trans ((dats m σ 0 c).arrAt_in 1 rfl _)⟩, h.2⟩) (run_windows m ρ σ hπ)

end Cert.Exchange

end
-- ==== Proof.Exchange.Reference.lean ====
/- What the reference computes, at an order: each block of its result is the block of its argument that the order sends there. -/
module

public import proofs.«01_k».proof.Proof.Gen.ReferenceIdeal.Run
public import proofs.«01_k».proof.Proof.Exchange.State
public import Idealize.ShloMosaic.Lib.Layout

@[expose] public section

noncomputable section

namespace Cert.Exchange

open Cert.ReferenceIdeal Cert.ReferenceIdeal.Gen
open Idealize.ShloMosaic Idealize.ShloMosaic.TcCoe Idealize.SL.Sem

/-- The place in the order at which each number stands, as the reference finds it: the numbers sorted, carrying their places,
    a negative place counted from the end. -/
def standing (w : S4.Idx → BitVec 32) : S4.Idx → BitVec 32 :=
  select (cmpi .slt ((Host.sort2 S4 0 comparator_i32_i32_d0 w (iotaInDim S4 32 0)).2) (broadcastInDim S4 ![] Facts₀.bcast_S_S4 (constantI S_ 32 0#32)))
    (addi ((Host.sort2 S4 0 comparator_i32_i32_d0 w (iotaInDim S4 32 0)).2) (broadcastInDim S4 ![] Facts₀.bcast_S_S4 (constantI S_ 32 4#32)))
    ((Host.sort2 S4 0 comparator_i32_i32_d0 w (iotaInDim S4 32 0)).2)

/-- Four numbers, as an array. -/
def four (a b d e : Fin 4) : S4.Idx → BitVec 32 := fun i => BitVec.ofNat 32 ((![a, b, d, e] : Fin 4 → Fin 4) (i 0)).val

/-- The index of an array of four at a number. -/
def at1 (z : Fin 4) : S4.Idx := Fin.cons z fun a => a.elim0

theorem eq_at1 (i : S4.Idx) : i = at1 (i 0) := by
  funext a; fin_cases a; rfl

theorem standing_four : ∀ a b d e : Fin 4, a ≠ b → a ≠ d → a ≠ e → b ≠ d → b ≠ e → d ≠ e →
    ∀ j : Fin 4, standing (four a b d e) (at1 ((![a, b, d, e] : Fin 4 → Fin 4) j)) = BitVec.ofNat 32 j.val := by
  decide +kernel

theorem words_four (σ : Equiv.Perm (Fin 4)) : words σ = four (σ 0) (σ 1) (σ 2) (σ 3) := by
  funext i
  have h : ∀ k : Fin 4, σ k = (![σ 0, σ 1, σ 2, σ 3] : Fin 4 → Fin 4) k := fun k => by fin_cases k <;> rfl
  show BitVec.ofNat 32 (σ (i 0)).val = BitVec.ofNat 32 _
  exact congrArg (fun v : Fin 4 => BitVec.ofNat 32 v.val) (h (i 0))

/-- The number `z` stands at its place in the order. -/
theorem standing_words (σ : Equiv.Perm (Fin 4)) (z : Fin 4) : standing (words σ) (at1 z) = BitVec.ofNat 32 (σ.symm z).val := by
  have h : ∀ k : Fin 4, (![σ 0, σ 1, σ 2, σ 3] : Fin 4 → Fin 4) k = σ k := fun k => by fin_cases k <;> rfl
  have n : ∀ {k l : Fin 4}, k ≠ l → σ k ≠ σ l := fun hk e => hk (σ.injective e)
  have := standing_four (σ 0) (σ 1) (σ 2) (σ 3) (n (by decide)) (n (by decide)) (n (by decide)) (n (by decide)) (n (by decide)) (n (by decide)) (σ.symm z)
  rw [h, Equiv.apply_symm_apply] at this
  rw [words_four]; exact this

/-- How the reference gathers: a whole block for each number. -/
abbrev way : GatherDims S4x1024x1024 S4x1 S4x1024x1024 := gather_S4x1024x1024_S4x1_S4x1024x1024_12_0_n_n_0_1_110241024

/-- A gather of blocks, at an element. -/
theorem gathered {α : Type} (x : S4x1024x1024.Idx → α) (r : S4.Idx → BitVec 32) (j i : S4x1024x1024.Idx)
    (h0 : (i 0).val = min (r (at1 (j 0))).toInt.toNat 3) (h1 : (i 1).val = (j 1).val) (h2 : (i 2).val = (j 2).val) :
    Host.gather way x (broadcastInDim S4x1 ![0] Facts₀.bcast_S4_S4x1_0 r) j = x i := by
  have hb : ∀ a : Fin 3, a ∉ way.operandBatchingDims := by decide
  have hs : ∀ a : Fin 3, a ≠ 0 → a ∉ way.startIndexMap := by decide
  have e : ∀ a : Fin 3, (GatherDims.operandIdx way j (broadcastInDim S4x1 ![0] Facts₀.bcast_S4_S4x1_0 r) a).val
      = GatherDims.start way j (broadcastInDim S4x1 ![0] Facts₀.bcast_S4_S4x1_0 r) a
        + GatherDims.offCoord way j a := fun a => by
    show GatherDims.start way j _ a + GatherDims.batchCoord way j a + GatherDims.offCoord way j a = _
    rw [GatherDims.batchCoord_eq_zero way j a (hb a), Nat.add_zero]
  have e0 : (GatherDims.operandIdx way j (broadcastInDim S4x1 ![0] Facts₀.bcast_S4_S4x1_0 r) (0 : Fin 3)).val = (i 0).val := by
    rw [e 0, GatherDims.offCoord_eq_zero way j 0 (by decide), Nat.add_zero]
    unfold GatherDims.start
    rw [dif_pos (by decide)]
    refine Eq.trans (congrArg (fun v : BitVec 32 => min v.toInt.toNat 3) (congrArg r (funext fun b => ?_))) h0.symm
    match b with
    | ⟨0, _⟩ => rfl
  have e1 : ∀ a : Fin 3, a ≠ 0 → (GatherDims.operandIdx way j (broadcastInDim S4x1 ![0] Facts₀.bcast_S4_S4x1_0 r) a).val
      = GatherDims.offCoord way j a := fun a ha => by
    rw [e a]
    unfold GatherDims.start
    rw [dif_neg (hs a ha), Nat.zero_add]
  refine congrArg x (funext fun a => Fin.ext ?_)
  match a with
  | ⟨0, _⟩ => exact e0
  | ⟨1, _⟩ => exact (e1 1 (by decide)).trans h1.symm
  | ⟨2, _⟩ => exact (e1 2 (by decide)).trans h2.symm

/-- The reference's result. -/
def wanted {F : FTy → Type} [FloatOps F] (x : S4x1024x1024.Idx → Elt F .bf16) (w : S4.Idx → BitVec 32) : S4x1024x1024.Idx → Elt F .f32 :=
  extf .f32 (Host.gather way x (broadcastInDim S4x1 ![0] Facts₀.bcast_S4_S4x1_0 (standing w))) Facts₀.bitsLt_bf16_f32

/-- An element of the reference's result: the argument's, in the block at the place where the result's block stands in the order. -/
theorem wanted_apply {F : FTy → Type} [FloatOps F] (x : S4x1024x1024.Idx → Elt F .bf16) (σ : Equiv.Perm (Fin 4)) (j i : S4x1024x1024.Idx)
    (h0 : (i 0).val = (σ.symm (j 0)).val) (h1 : (i 1).val = (j 1).val) (h2 : (i 2).val = (j 2).val) :
    wanted (F := F) x (words σ) j = FloatOps.extf .f32 (by decide) (x i) := by
  refine congrArg (FloatOps.extf .f32 (by decide)) (gathered x (standing (words σ)) j i ?_ h1 h2)
  have key : ∀ z : Fin 4, min (BitVec.ofNat 32 z.val).toInt.toNat 3 = z.val := by decide
  rw [h0, standing_words σ (j 0), key]

/-- A device's block of the reference's result is the kernel's, from the devices' blocks of the reference's argument. -/
theorem result_block {F : FTy → Type} [FloatOps F] (x : S4x1024x1024.Idx → Elt F .bf16) (σ : Equiv.Perm (Fin 4)) (c : Dev Cert.KernelIdeal.nD) :
    result (F := F) (fun d => Layout.blockN ⟨3, ![1, 1024, 1024]⟩ ⟨3, ![4, 1024, 1024]⟩ (Layout.meshBlock [2, 4, 4] ![[2], [], []] d) x) σ c
      = Layout.blockN ⟨3, ![1, 1024, 1024]⟩ ⟨3, ![4, 1024, 1024]⟩ (Layout.meshBlock [2, 4, 4] ![[2], [], []] c) (wanted (F := F) x (words σ)) := by
  funext i
  rw [Layout.blockN_apply]
  have hi : (i 0).val = 0 := Nat.lt_one_iff.mp (i 0).isLt
  have hz : ∀ d : Dev Cert.KernelIdeal.nD, ((Layout.meshBlock [2, 4, 4] ![[2], [], []] d : (b : Fin 3) → Fin (Layout.cutSize [2, 4, 4] ((![[2], [], []] : Fin 3 → List Nat) b))) 0).val
      = (place d).val := by decide
  have e : ∀ d : Dev Cert.KernelIdeal.nD, ∀ h : Layout.TilesN ⟨3, ![1, 1024, 1024]⟩ ⟨3, ![4, 1024, 1024]⟩ fun b : Fin 3 => Layout.cutSize [2, 4, 4] ((![[2], [], []] : Fin 3 → List Nat) b),
      (h.idx (Layout.meshBlock [2, 4, 4] ![[2], [], []] d) i (0 : Fin 3)).val = (place d).val
      ∧ (h.idx (Layout.meshBlock [2, 4, 4] ![[2], [], []] d) i (1 : Fin 3)).val = (i 1).val
      ∧ (h.idx (Layout.meshBlock [2, 4, 4] ![[2], [], []] d) i (2 : Fin 3)).val = (i 2).val := fun d h => by
    refine ⟨?_, ?_, ?_⟩
    · rw [Layout.TilesN.idx_val]
      show ((Layout.meshBlock [2, 4, 4] ![[2], [], []] d : (b : Fin 3) → Fin (Layout.cutSize [2, 4, 4] ((![[2], [], []] : Fin 3 → List Nat) b))) 0).val * 1 + (i 0).val = _
      rw [hz, hi, Nat.mul_one, Nat.add_zero]
    · rw [Layout.TilesN.idx_val]
      show 0 * 1024 + (i 1).val = _
      rw [Nat.zero_mul, Nat.zero_add]
    · rw [Layout.TilesN.idx_val]
      show 0 * 1024 + (i 2).val = _
      rw [Nat.zero_mul, Nat.zero_add]
  have hp : place (origin σ c (i 1).val) = σ.symm (place c) := place_along _ _
  refine (wanted_apply x σ _ _ ?_ ?_ ?_).symm
  · rw [(e _ _).1, hp]
    exact congrArg (fun v : Fin 4 => (σ.symm v).val) (Fin.ext (e c _).1.symm)
  · rw [(e _ _).2.1, (e _ _).2.1]
  · rw [(e _ _).2.2, (e _ _).2.2]

end Cert.Exchange

end
-- ==== Proof.Exchange.Order.lean ====
/- The claims, each from what its precondition says: that every device's second argument holds one certain order. -/
module

public import proofs.«01_k».proof.Defs
public import proofs.«01_k».proof.Proof.Gen.Kernel
public import proofs.«01_k».proof.Proof.Exchange.Run
public import proofs.«01_k».proof.Proof.Exchange.Reference

@[expose] public section

noncomputable section

namespace Cert.Exchange

open Idealize.ShloMosaic Idealize.ShloMosaic.TcCoe Idealize.SL.Sem
open Cert.ReferenceIdeal (S4 S_)

/-! ## What a precondition says -/

theorem andi_both : ∀ x y : BitVec 1, IntOp.andi x y = 1#1 → x = 1#1 ∧ y = 1#1 := by decide

/-- Ands of one-bit words that come to one were all of ones, and began at one. -/
theorem foldl_andi {α : Type} (f : α → BitVec 1) : ∀ (l : List α) (b : BitVec 1),
    l.foldl (fun r n => IntOp.andi r (f n)) b = 1#1 → b = 1#1 ∧ ∀ n ∈ l, f n = 1#1
  | [], b, h => ⟨h, fun _ hn => (List.not_mem_nil hn).elim⟩
  | n :: l, b, h => by
    have ⟨h1, h2⟩ := foldl_andi f l _ h
    have ⟨hb, hn⟩ := andi_both _ _ h1
    refine ⟨hb, fun k hk => ?_⟩
    rcases List.mem_cons.mp hk with rfl | hk
    · exact hn
    · exact h2 k hk

theorem rowMajor_at1 (k : Fin 4) : S4.rowMajor (at1 k) = k := by
  fin_cases k <;> rfl

/-- Four words, compared with a table, are the table's when every comparison holds. -/
theorem of_table {t : Fin 4 → BitVec 32} {w : S4.Idx → BitVec 32} {h : S4.ReducesTo [0] S_} {hu : 0 < S_.numel}
    (e : Host.reduce IntOp.andi (cmpi .eq w (fun i => t (S4.rowMajor i))) (constantI S_ 1 1#1) h hu = fun _ => 1#1) (k : Fin 4) :
    w (at1 k) = t k := by
  have h1 := (foldl_andi _ _ _ (congrFun e (Shape.Idx.first hu))).2 k
    (List.mem_filter.mpr ⟨List.mem_finRange _, decide_eq_true (funext fun a => a.elim0)⟩)
  rw [show S4.rowMajor.symm k = at1 k from (Equiv.symm_apply_eq _).mpr (rowMajor_at1 k).symm] at h1
  have h2 : BitVec.ofBool (w (at1 k) == t (S4.rowMajor (at1 k))) = 1#1 := h1
  rw [rowMajor_at1] at h2
  by_contra hne
  rw [beq_false_of_ne hne] at h2
  exact absurd h2 (by decide)

/-- The order with these four numbers. -/
def order (f : Fin 4 → Fin 4) (hf : Function.Injective f) : Equiv.Perm (Fin 4) :=
  Equiv.ofBijective f (Finite.injective_iff_bijective.mp hf)

/-- Four words are an order's when they are a table of it. -/
theorem words_of_table (f : Fin 4 → Fin 4) (hf : Function.Injective f) (t : Fin 4 → BitVec 32)
    (ht : ∀ k, t k = BitVec.ofNat 32 (f k).val) {w : S4.Idx → BitVec 32} {h : S4.ReducesTo [0] S_} {hu : 0 < S_.numel}
    (e : Host.reduce IntOp.andi (cmpi .eq w (fun i => t (S4.rowMajor i))) (constantI S_ 1 1#1) h hu = fun _ => 1#1) :
    w = words (order f hf) := by
  funext i
  rw [eq_at1 i]
  exact (of_table e (i 0)).trans (ht (i 0))

/-! ## The claims -/

/-- The contents of the kernel's memory. -/
abbrev Contents (F : FTy → Type) := (ℓ : Loc Cert.KernelIdeal.nD Cert.KernelIdeal.τ Cert.KernelIdeal.sig) → Buf (Elt F) ℓ

/-- Every device's second argument holds the order. -/
def Ordered {F : FTy → Type} (m : Contents F) (σ : Equiv.Perm (Fin 4)) : Prop :=
  ∀ c : Dev Cert.KernelIdeal.nD, m (c.tc.loc Cert.KernelIdeal.main_arg1) = words σ

/-- The two programs' kernels are one. -/
theorem kernels_eq : Cert.Kernel.defs₀ (F := Bits) = Cert.KernelIdeal.defs₀ (F := Bits) := by
  unfold Cert.Kernel.defs₀ Cert.KernelIdeal.defs₀
  refine congrArg Defs.onTc ?_
  funext l
  match l with
  | 0 => funext x; rfl

theorem defs_eq : Cert.Kernel.defs (F := Bits) = Cert.KernelIdeal.defs (F := Bits) :=
  congrArg (Pipeline.defs Cert.KernelIdeal.pcfgs) kernels_eq

/-- The kernel on words: it ends, its arguments as they were and every semaphore at zero. -/
theorem frame_bits (m : Contents Bits) (ρ : Dev Cert.Kernel.nD → PrngReg) {σ : Equiv.Perm (Fin 4)} (h : Ordered m σ) :
    θ_run (Cert.Kernel.defs (F := Bits)) (onTc (τ := Cert.Kernel.τ) (Cert.Kernel.main (F := Bits))) ⟨m, fun _ => 0, ρ⟩ (fun r =>
      (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq]
  exact (θ_run (Cert.KernelIdeal.defs (F := Bits)) _ _).mono (fun _ q => ⟨fun c => (q.1 c).2, q.2⟩) (run_main (F := Bits) m ρ σ h)

/-- The kernel on real numbers, likewise. -/
theorem frame_ideal (m : Contents Ideal) (ρ : Dev Cert.KernelIdeal.nD → PrngReg) {σ : Equiv.Perm (Fin 4)} (h : Ordered m σ) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD, r.2.mem ((c.tc : Thread Cert.KernelIdeal.nD Cert.KernelIdeal.τ).loc Cert.KernelIdeal.main_arg0) = m (c.tc.loc Cert.KernelIdeal.main_arg0)
        ∧ r.2.mem ((c.tc : Thread Cert.KernelIdeal.nD Cert.KernelIdeal.τ).loc Cert.KernelIdeal.main_arg1) = m (c.tc.loc Cert.KernelIdeal.main_arg1))
      ∧ r.2.sem = fun _ => 0) :=
  (θ_run (Cert.KernelIdeal.defs (F := Ideal)) _ _).mono (fun _ q => ⟨fun c => (q.1 c).2, q.2⟩) (run_main (F := Ideal) m ρ σ h)

/-- The reference, from any memory: it has no semaphore to leave unsettled. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0) = m (c.tc.loc Cert.ReferenceIdeal.main_arg0)
        ∧ r.2.mem ((c.tc : Thread Cert.ReferenceIdeal.nD Cert.ReferenceIdeal.τ).loc Cert.ReferenceIdeal.main_arg1) = m (c.tc.loc Cert.ReferenceIdeal.main_arg1))
      ∧ r.2.sem = fun _ => 0) :=
  (θ_run (Cert.ReferenceIdeal.defs (F := Ideal)) _ _).mono (fun _ q => ⟨fun c => (q c).2, funext fun g => by
    rcases g with ⟨⟨d, p⟩, s | s⟩ <;> exact (nomatch s)⟩) (Cert.ReferenceIdeal.Value.run m ρ)

/-- The two compute one array: where each device holds its block of the reference's argument and the reference's order, it
    ends with its block of the reference's result. -/
theorem equal_results (m : Contents Ideal) (ρ : Dev Cert.KernelIdeal.nD → PrngReg)
    (m' : (ℓ : Loc Cert.ReferenceIdeal.nD Cert.ReferenceIdeal.τ Cert.ReferenceIdeal.sig) → Buf (Elt Ideal) ℓ)
    (ρ' : Dev Cert.ReferenceIdeal.nD → PrngReg) {σ : Equiv.Perm (Fin 4)} (h : Ordered m σ)
    (hm : ∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hw : m' (((0 : Dev Cert.ReferenceIdeal.nD).tc : Thread Cert.ReferenceIdeal.nD Cert.ReferenceIdeal.τ).loc Cert.ReferenceIdeal.main_arg1) = words σ :=
    ((hm 0).2).symm.trans (h 0)
  have hg : given m = fun c => Layout.blockN ⟨3, ![1, 1024, 1024]⟩ ⟨3, ![4, 1024, 1024]⟩ (Layout.meshBlock [2, 4, 4] ![[2], [], []] c)
      (m' (((0 : Dev Cert.ReferenceIdeal.nD).tc : Thread Cert.ReferenceIdeal.nD Cert.ReferenceIdeal.τ).loc Cert.ReferenceIdeal.main_arg0)) :=
    funext fun c => (hm c).1
  refine ⟨wanted (F := Ideal) (m' (((0 : Dev Cert.ReferenceIdeal.nD).tc : Thread Cert.ReferenceIdeal.nD Cert.ReferenceIdeal.τ).loc Cert.ReferenceIdeal.main_arg0)) (words σ), ?_, ?_⟩
  · refine (θ_run (Cert.KernelIdeal.defs (F := Ideal)) _ _).mono (fun r q c => ⟨(q.1 c).1.trans ?_, (q.1 c).2⟩) (run_main (F := Ideal) m ρ σ h)
    rw [hg]
    exact result_block _ σ c
  · refine (θ_run (Cert.ReferenceIdeal.defs (F := Ideal)) _ _).mono (fun r q => ⟨(q 0).1.trans ?_, (q 0).2⟩) (Cert.ReferenceIdeal.Value.run m' ρ')
    rw [← hw]
    rfl

end Cert.Exchange

end
-- ==== Proof.Exchange.Orders.lean ====
/- The twenty-four orders of four numbers: each precondition says that a device's second argument holds its order. -/
module

public import proofs.«01_k».proof.Proof.Gen.Pre_pi_is_0123_Kernel
public import proofs.«01_k».proof.Proof.Gen.Pre_pi_is_0132_Kernel
public import proofs.«01_k».proof.Proof.Gen.Pre_pi_is_0213_Kernel
public import proofs.«01_k».proof.Proof.Gen.Pre_pi_is_0231_Kernel
public import proofs.«01_k».proof.Proof.Gen.Pre_pi_is_0312_Kernel
public import proofs.«01_k».proof.Proof.Gen.Pre_pi_is_0321_Kernel
public import proofs.«01_k».proof.Proof.Gen.Pre_pi_is_1023_Kernel
public import proofs.«01_k».proof.Proof.Gen.Pre_pi_is_1032_Kernel
public import proofs.«01_k».proof.Proof.Gen.Pre_pi_is_1203_Kernel
public import proofs.«01_k».proof.Proof.Gen.Pre_pi_is_1230_Kernel
public import proofs.«01_k».proof.Proof.Gen.Pre_pi_is_1302_Kernel
public import proofs.«01_k».proof.Proof.Gen.Pre_pi_is_1320_Kernel
public import proofs.«01_k».proof.Proof.Gen.Pre_pi_is_2013_Kernel
public import proofs.«01_k».proof.Proof.Gen.Pre_pi_is_2031_Kernel
public import proofs.«01_k».proof.Proof.Gen.Pre_pi_is_2103_Kernel
public import proofs.«01_k».proof.Proof.Gen.Pre_pi_is_2130_Kernel
public import proofs.«01_k».proof.Proof.Gen.Pre_pi_is_2301_Kernel
public import proofs.«01_k».proof.Proof.Gen.Pre_pi_is_2310_Kernel
public import proofs.«01_k».proof.Proof.Gen.Pre_pi_is_3012_Kernel
public import proofs.«01_k».proof.Proof.Gen.Pre_pi_is_3021_Kernel
public import proofs.«01_k».proof.Proof.Gen.Pre_pi_is_3102_Kernel
public import proofs.«01_k».proof.Proof.Gen.Pre_pi_is_3120_Kernel
public import proofs.«01_k».proof.Proof.Gen.Pre_pi_is_3201_Kernel
public import proofs.«01_k».proof.Proof.Gen.Pre_pi_is_3210_Kernel
public import proofs.«01_k».proof.Proof.Exchange.Order

@[expose] public section

noncomputable section

namespace Cert.Exchange

open Idealize.ShloMosaic
open Cert.ReferenceIdeal (S4)

variable {F : FTy → Type} [FloatOps F] {x : FVec F ⟨3, ![1, 1024, 1024]⟩ .bf16} {w : IVec S4 32}

theorem at_0123 (e : Cert.Pre_pi_is_0123_Kernel.fn x w = fun _ => 1#1) : w = words (order ![0, 1, 2, 3] (by decide)) :=
  words_of_table _ _ Cert.Pre_pi_is_0123_Kernel.lit0 (by decide) e

theorem at_0132 (e : Cert.Pre_pi_is_0132_Kernel.fn x w = fun _ => 1#1) : w = words (order ![0, 1, 3, 2] (by decide)) :=
  words_of_table _ _ Cert.Pre_pi_is_0132_Kernel.lit0 (by decide) e

theorem at_0213 (e : Cert.Pre_pi_is_0213_Kernel.fn x w = fun _ => 1#1) : w = words (order ![0, 2, 1, 3] (by decide)) :=
  words_of_table _ _ Cert.Pre_pi_is_0213_Kernel.lit0 (by decide) e

theorem at_0231 (e : Cert.Pre_pi_is_0231_Kernel.fn x w = fun _ => 1#1) : w = words (order ![0, 2, 3, 1] (by decide)) :=
  words_of_table _ _ Cert.Pre_pi_is_0231_Kernel.lit0 (by decide) e

theorem at_0312 (e : Cert.Pre_pi_is_0312_Kernel.fn x w = fun _ => 1#1) : w = words (order ![0, 3, 1, 2] (by decide)) :=
  words_of_table _ _ Cert.Pre_pi_is_0312_Kernel.lit0 (by decide) e

theorem at_0321 (e : Cert.Pre_pi_is_0321_Kernel.fn x w = fun _ => 1#1) : w = words (order ![0, 3, 2, 1] (by decide)) :=
  words_of_table _ _ Cert.Pre_pi_is_0321_Kernel.lit0 (by decide) e

theorem at_1023 (e : Cert.Pre_pi_is_1023_Kernel.fn x w = fun _ => 1#1) : w = words (order ![1, 0, 2, 3] (by decide)) :=
  words_of_table _ _ Cert.Pre_pi_is_1023_Kernel.lit0 (by decide) e

theorem at_1032 (e : Cert.Pre_pi_is_1032_Kernel.fn x w = fun _ => 1#1) : w = words (order ![1, 0, 3, 2] (by decide)) :=
  words_of_table _ _ Cert.Pre_pi_is_1032_Kernel.lit0 (by decide) e

theorem at_1203 (e : Cert.Pre_pi_is_1203_Kernel.fn x w = fun _ => 1#1) : w = words (order ![1, 2, 0, 3] (by decide)) :=
  words_of_table _ _ Cert.Pre_pi_is_1203_Kernel.lit0 (by decide) e

theorem at_1230 (e : Cert.Pre_pi_is_1230_Kernel.fn x w = fun _ => 1#1) : w = words (order ![1, 2, 3, 0] (by decide)) :=
  words_of_table _ _ Cert.Pre_pi_is_1230_Kernel.lit0 (by decide) e

theorem at_1302 (e : Cert.Pre_pi_is_1302_Kernel.fn x w = fun _ => 1#1) : w = words (order ![1, 3, 0, 2] (by decide)) :=
  words_of_table _ _ Cert.Pre_pi_is_1302_Kernel.lit0 (by decide) e

theorem at_1320 (e : Cert.Pre_pi_is_1320_Kernel.fn x w = fun _ => 1#1) : w = words (order ![1, 3, 2, 0] (by decide)) :=
  words_of_table _ _ Cert.Pre_pi_is_1320_Kernel.lit0 (by decide) e

theorem at_2013 (e : Cert.Pre_pi_is_2013_Kernel.fn x w = fun _ => 1#1) : w = words (order ![2, 0, 1, 3] (by decide)) :=
  words_of_table _ _ Cert.Pre_pi_is_2013_Kernel.lit0 (by decide) e

theorem at_2031 (e : Cert.Pre_pi_is_2031_Kernel.fn x w = fun _ => 1#1) : w = words (order ![2, 0, 3, 1] (by decide)) :=
  words_of_table _ _ Cert.Pre_pi_is_2031_Kernel.lit0 (by decide) e

theorem at_2103 (e : Cert.Pre_pi_is_2103_Kernel.fn x w = fun _ => 1#1) : w = words (order ![2, 1, 0, 3] (by decide)) :=
  words_of_table _ _ Cert.Pre_pi_is_2103_Kernel.lit0 (by decide) e

theorem at_2130 (e : Cert.Pre_pi_is_2130_Kernel.fn x w = fun _ => 1#1) : w = words (order ![2, 1, 3, 0] (by decide)) :=
  words_of_table _ _ Cert.Pre_pi_is_2130_Kernel.lit0 (by decide) e

theorem at_2301 (e : Cert.Pre_pi_is_2301_Kernel.fn x w = fun _ => 1#1) : w = words (order ![2, 3, 0, 1] (by decide)) :=
  words_of_table _ _ Cert.Pre_pi_is_2301_Kernel.lit0 (by decide) e

theorem at_2310 (e : Cert.Pre_pi_is_2310_Kernel.fn x w = fun _ => 1#1) : w = words (order ![2, 3, 1, 0] (by decide)) :=
  words_of_table _ _ Cert.Pre_pi_is_2310_Kernel.lit0 (by decide) e

theorem at_3012 (e : Cert.Pre_pi_is_3012_Kernel.fn x w = fun _ => 1#1) : w = words (order ![3, 0, 1, 2] (by decide)) :=
  words_of_table _ _ Cert.Pre_pi_is_3012_Kernel.lit0 (by decide) e

theorem at_3021 (e : Cert.Pre_pi_is_3021_Kernel.fn x w = fun _ => 1#1) : w = words (order ![3, 0, 2, 1] (by decide)) :=
  words_of_table _ _ Cert.Pre_pi_is_3021_Kernel.lit0 (by decide) e

theorem at_3102 (e : Cert.Pre_pi_is_3102_Kernel.fn x w = fun _ => 1#1) : w = words (order ![3, 1, 0, 2] (by decide)) :=
  words_of_table _ _ Cert.Pre_pi_is_3102_Kernel.lit0 (by decide) e

theorem at_3120 (e : Cert.Pre_pi_is_3120_Kernel.fn x w = fun _ => 1#1) : w = words (order ![3, 1, 2, 0] (by decide)) :=
  words_of_table _ _ Cert.Pre_pi_is_3120_Kernel.lit0 (by decide) e

theorem at_3201 (e : Cert.Pre_pi_is_3201_Kernel.fn x w = fun _ => 1#1) : w = words (order ![3, 2, 0, 1] (by decide)) :=
  words_of_table _ _ Cert.Pre_pi_is_3201_Kernel.lit0 (by decide) e

theorem at_3210 (e : Cert.Pre_pi_is_3210_Kernel.fn x w = fun _ => 1#1) : w = words (order ![3, 2, 1, 0] (by decide)) :=
  words_of_table _ _ Cert.Pre_pi_is_3210_Kernel.lit0 (by decide) e

end Cert.Exchange

end
-- ==== Proof.lean ====
module

public import proofs.«01_k».proof.Defs
public import proofs.«01_k».proof.Proof.Gen.ReferenceIdeal
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_pi_is_0123_ReferenceIdeal
public import proofs.«01_k».proof.Proof.Gen.Pre_pi_is_0132_ReferenceIdeal
public import proofs.«01_k».proof.Proof.Gen.Pre_pi_is_0213_ReferenceIdeal
public import proofs.«01_k».proof.Proof.Gen.Pre_pi_is_0231_ReferenceIdeal
public import proofs.«01_k».proof.Proof.Gen.Pre_pi_is_0312_ReferenceIdeal
public import proofs.«01_k».proof.Proof.Gen.Pre_pi_is_0321_ReferenceIdeal
public import proofs.«01_k».proof.Proof.Gen.Pre_pi_is_1023_ReferenceIdeal
public import proofs.«01_k».proof.Proof.Gen.Pre_pi_is_1032_ReferenceIdeal
public import proofs.«01_k».proof.Proof.Gen.Pre_pi_is_1203_ReferenceIdeal
public import proofs.«01_k».proof.Proof.Gen.Pre_pi_is_1230_ReferenceIdeal
public import proofs.«01_k».proof.Proof.Gen.Pre_pi_is_1302_ReferenceIdeal
public import proofs.«01_k».proof.Proof.Gen.Pre_pi_is_1320_ReferenceIdeal
public import proofs.«01_k».proof.Proof.Gen.Pre_pi_is_2013_ReferenceIdeal
public import proofs.«01_k».proof.Proof.Gen.Pre_pi_is_2031_ReferenceIdeal
public import proofs.«01_k».proof.Proof.Gen.Pre_pi_is_2103_ReferenceIdeal
public import proofs.«01_k».proof.Proof.Gen.Pre_pi_is_2130_ReferenceIdeal
public import proofs.«01_k».proof.Proof.Gen.Pre_pi_is_2301_ReferenceIdeal
public import proofs.«01_k».proof.Proof.Gen.Pre_pi_is_2310_ReferenceIdeal
public import proofs.«01_k».proof.Proof.Gen.Pre_pi_is_3012_ReferenceIdeal
public import proofs.«01_k».proof.Proof.Gen.Pre_pi_is_3021_ReferenceIdeal
public import proofs.«01_k».proof.Proof.Gen.Pre_pi_is_3102_ReferenceIdeal
public import proofs.«01_k».proof.Proof.Gen.Pre_pi_is_3120_ReferenceIdeal
public import proofs.«01_k».proof.Proof.Gen.Pre_pi_is_3201_ReferenceIdeal
public import proofs.«01_k».proof.Proof.Gen.Pre_pi_is_3210_ReferenceIdeal
public import proofs.«01_k».proof.Proof.Gen.Pre_pi_is_0123_Kernel
public import proofs.«01_k».proof.Proof.Gen.Pre_pi_is_0132_Kernel
public import proofs.«01_k».proof.Proof.Gen.Pre_pi_is_0213_Kernel
public import proofs.«01_k».proof.Proof.Gen.Pre_pi_is_0231_Kernel
public import proofs.«01_k».proof.Proof.Gen.Pre_pi_is_0312_Kernel
public import proofs.«01_k».proof.Proof.Gen.Pre_pi_is_0321_Kernel
public import proofs.«01_k».proof.Proof.Gen.Pre_pi_is_1023_Kernel
public import proofs.«01_k».proof.Proof.Gen.Pre_pi_is_1032_Kernel
public import proofs.«01_k».proof.Proof.Gen.Pre_pi_is_1203_Kernel
public import proofs.«01_k».proof.Proof.Gen.Pre_pi_is_1230_Kernel
public import proofs.«01_k».proof.Proof.Gen.Pre_pi_is_1302_Kernel
public import proofs.«01_k».proof.Proof.Gen.Pre_pi_is_1320_Kernel
public import proofs.«01_k».proof.Proof.Gen.Pre_pi_is_2013_Kernel
public import proofs.«01_k».proof.Proof.Gen.Pre_pi_is_2031_Kernel
public import proofs.«01_k».proof.Proof.Gen.Pre_pi_is_2103_Kernel
public import proofs.«01_k».proof.Proof.Gen.Pre_pi_is_2130_Kernel
public import proofs.«01_k».proof.Proof.Gen.Pre_pi_is_2301_Kernel
public import proofs.«01_k».proof.Proof.Gen.Pre_pi_is_2310_Kernel
public import proofs.«01_k».proof.Proof.Gen.Pre_pi_is_3012_Kernel
public import proofs.«01_k».proof.Proof.Gen.Pre_pi_is_3021_Kernel
public import proofs.«01_k».proof.Proof.Gen.Pre_pi_is_3102_Kernel
public import proofs.«01_k».proof.Proof.Gen.Pre_pi_is_3120_Kernel
public import proofs.«01_k».proof.Proof.Gen.Pre_pi_is_3201_Kernel
public import proofs.«01_k».proof.Proof.Gen.Pre_pi_is_3210_Kernel
public import proofs.«01_k».proof.Proof.Exchange.Orders
public import Idealize.ShloMosaic.Adequacy
public import Idealize.ShloMosaic.Init

@[expose] public section

noncomputable section

namespace Cert.Proof

open Idealize.ShloMosaic Idealize.SL.Sem Cert.ReferenceIdeal Cert.Exchange

theorem claim : Cert.Claim := ⟨Cert.ReferenceIdeal.Gen.facts, Cert.Kernel.Gen.facts, Cert.KernelIdeal.Gen.facts, Cert.Pre_pi_is_0123_ReferenceIdeal.Gen.facts, Cert.Pre_pi_is_0132_ReferenceIdeal.Gen.facts, Cert.Pre_pi_is_0213_ReferenceIdeal.Gen.facts, Cert.Pre_pi_is_0231_ReferenceIdeal.Gen.facts, Cert.Pre_pi_is_0312_ReferenceIdeal.Gen.facts, Cert.Pre_pi_is_0321_ReferenceIdeal.Gen.facts, Cert.Pre_pi_is_1023_ReferenceIdeal.Gen.facts, Cert.Pre_pi_is_1032_ReferenceIdeal.Gen.facts, Cert.Pre_pi_is_1203_ReferenceIdeal.Gen.facts, Cert.Pre_pi_is_1230_ReferenceIdeal.Gen.facts, Cert.Pre_pi_is_1302_ReferenceIdeal.Gen.facts, Cert.Pre_pi_is_1320_ReferenceIdeal.Gen.facts, Cert.Pre_pi_is_2013_ReferenceIdeal.Gen.facts, Cert.Pre_pi_is_2031_ReferenceIdeal.Gen.facts, Cert.Pre_pi_is_2103_ReferenceIdeal.Gen.facts, Cert.Pre_pi_is_2130_ReferenceIdeal.Gen.facts, Cert.Pre_pi_is_2301_ReferenceIdeal.Gen.facts, Cert.Pre_pi_is_2310_ReferenceIdeal.Gen.facts, Cert.Pre_pi_is_3012_ReferenceIdeal.Gen.facts, Cert.Pre_pi_is_3021_ReferenceIdeal.Gen.facts, Cert.Pre_pi_is_3102_ReferenceIdeal.Gen.facts, Cert.Pre_pi_is_3120_ReferenceIdeal.Gen.facts, Cert.Pre_pi_is_3201_ReferenceIdeal.Gen.facts, Cert.Pre_pi_is_3210_ReferenceIdeal.Gen.facts, Cert.Pre_pi_is_0123_Kernel.Gen.facts, Cert.Pre_pi_is_0132_Kernel.Gen.facts, Cert.Pre_pi_is_0213_Kernel.Gen.facts, Cert.Pre_pi_is_0231_Kernel.Gen.facts, Cert.Pre_pi_is_0312_Kernel.Gen.facts, Cert.Pre_pi_is_0321_Kernel.Gen.facts, Cert.Pre_pi_is_1023_Kernel.Gen.facts, Cert.Pre_pi_is_1032_Kernel.Gen.facts, Cert.Pre_pi_is_1203_Kernel.Gen.facts, Cert.Pre_pi_is_1230_Kernel.Gen.facts, Cert.Pre_pi_is_1302_Kernel.Gen.facts, Cert.Pre_pi_is_1320_Kernel.Gen.facts, Cert.Pre_pi_is_2013_Kernel.Gen.facts, Cert.Pre_pi_is_2031_Kernel.Gen.facts, Cert.Pre_pi_is_2103_Kernel.Gen.facts, Cert.Pre_pi_is_2130_Kernel.Gen.facts, Cert.Pre_pi_is_2301_Kernel.Gen.facts, Cert.Pre_pi_is_2310_Kernel.Gen.facts, Cert.Pre_pi_is_3012_Kernel.Gen.facts, Cert.Pre_pi_is_3021_Kernel.Gen.facts, Cert.Pre_pi_is_3102_Kernel.Gen.facts, Cert.Pre_pi_is_3120_Kernel.Gen.facts, Cert.Pre_pi_is_3201_Kernel.Gen.facts, Cert.Pre_pi_is_3210_Kernel.Gen.facts,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g h => frame_bits m g fun c => at_0123 (h c),
  fun m g h => frame_bits m g fun c => at_0132 (h c),
  fun m g h => frame_bits m g fun c => at_0213 (h c),
  fun m g h => frame_bits m g fun c => at_0231 (h c),
  fun m g h => frame_bits m g fun c => at_0312 (h c),
  fun m g h => frame_bits m g fun c => at_0321 (h c),
  fun m g h => frame_bits m g fun c => at_1023 (h c),
  fun m g h => frame_bits m g fun c => at_1032 (h c),
  fun m g h => frame_bits m g fun c => at_1203 (h c),
  fun m g h => frame_bits m g fun c => at_1230 (h c),
  fun m g h => frame_bits m g fun c => at_1302 (h c),
  fun m g h => frame_bits m g fun c => at_1320 (h c),
  fun m g h => frame_bits m g fun c => at_2013 (h c),
  fun m g h => frame_bits m g fun c => at_2031 (h c),
  fun m g h => frame_bits m g fun c => at_2103 (h c),
  fun m g h => frame_bits m g fun c => at_2130 (h c),
  fun m g h => frame_bits m g fun c => at_2301 (h c),
  fun m g h => frame_bits m g fun c => at_2310 (h c),
  fun m g h => frame_bits m g fun c => at_3012 (h c),
  fun m g h => frame_bits m g fun c => at_3021 (h c),
  fun m g h => frame_bits m g fun c => at_3102 (h c),
  fun m g h => frame_bits m g fun c => at_3120 (h c),
  fun m g h => frame_bits m g fun c => at_3201 (h c),
  fun m g h => frame_bits m g fun c => at_3210 (h c),
  fun m g h => frame_ideal m g fun c => at_0123 (h c),
  fun m g h => frame_ideal m g fun c => at_0132 (h c),
  fun m g h => frame_ideal m g fun c => at_0213 (h c),
  fun m g h => frame_ideal m g fun c => at_0231 (h c),
  fun m g h => frame_ideal m g fun c => at_0312 (h c),
  fun m g h => frame_ideal m g fun c => at_0321 (h c),
  fun m g h => frame_ideal m g fun c => at_1023 (h c),
  fun m g h => frame_ideal m g fun c => at_1032 (h c),
  fun m g h => frame_ideal m g fun c => at_1203 (h c),
  fun m g h => frame_ideal m g fun c => at_1230 (h c),
  fun m g h => frame_ideal m g fun c => at_1302 (h c),
  fun m g h => frame_ideal m g fun c => at_1320 (h c),
  fun m g h => frame_ideal m g fun c => at_2013 (h c),
  fun m g h => frame_ideal m g fun c => at_2031 (h c),
  fun m g h => frame_ideal m g fun c => at_2103 (h c),
  fun m g h => frame_ideal m g fun c => at_2130 (h c),
  fun m g h => frame_ideal m g fun c => at_2301 (h c),
  fun m g h => frame_ideal m g fun c => at_2310 (h c),
  fun m g h => frame_ideal m g fun c => at_3012 (h c),
  fun m g h => frame_ideal m g fun c => at_3021 (h c),
  fun m g h => frame_ideal m g fun c => at_3102 (h c),
  fun m g h => frame_ideal m g fun c => at_3120 (h c),
  fun m g h => frame_ideal m g fun c => at_3201 (h c),
  fun m g h => frame_ideal m g fun c => at_3210 (h c),
  trivial,
  fun m g m' g' h => equal_results m g m' g' fun c => at_0123 (h c),
  fun m g m' g' h => equal_results m g m' g' fun c => at_0132 (h c),
  fun m g m' g' h => equal_results m g m' g' fun c => at_0213 (h c),
  fun m g m' g' h => equal_results m g m' g' fun c => at_0231 (h c),
  fun m g m' g' h => equal_results m g m' g' fun c => at_0312 (h c),
  fun m g m' g' h => equal_results m g m' g' fun c => at_0321 (h c),
  fun m g m' g' h => equal_results m g m' g' fun c => at_1023 (h c),
  fun m g m' g' h => equal_results m g m' g' fun c => at_1032 (h c),
  fun m g m' g' h => equal_results m g m' g' fun c => at_1203 (h c),
  fun m g m' g' h => equal_results m g m' g' fun c => at_1230 (h c),
  fun m g m' g' h => equal_results m g m' g' fun c => at_1302 (h c),
  fun m g m' g' h => equal_results m g m' g' fun c => at_1320 (h c),
  fun m g m' g' h => equal_results m g m' g' fun c => at_2013 (h c),
  fun m g m' g' h => equal_results m g m' g' fun c => at_2031 (h c),
  fun m g m' g' h => equal_results m g m' g' fun c => at_2103 (h c),
  fun m g m' g' h => equal_results m g m' g' fun c => at_2130 (h c),
  fun m g m' g' h => equal_results m g m' g' fun c => at_2301 (h c),
  fun m g m' g' h => equal_results m g m' g' fun c => at_2310 (h c),
  fun m g m' g' h => equal_results m g m' g' fun c => at_3012 (h c),
  fun m g m' g' h => equal_results m g m' g' fun c => at_3021 (h c),
  fun m g m' g' h => equal_results m g m' g' fun c => at_3102 (h c),
  fun m g m' g' h => equal_results m g m' g' fun c => at_3120 (h c),
  fun m g m' g' h => equal_results m g m' g' fun c => at_3201 (h c),
  fun m g m' g' h => equal_results m g m' g' fun c => at_3210 (h c)⟩

end Cert.Proof

end
